-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_diagonal_box [hPre_diagonal_box : Cert.Pre_diagonal_box.Facts] (m : (ℓ : Loc Cert.KernelIdeal.nD Cert.KernelIdeal.τ Cert.KernelIdeal.sig) → Buf (Elt Ideal) ℓ) : Prop :=
  ∀ c : Dev Cert.KernelIdeal.nD,
    (Cert.Pre_diagonal_box.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_diagonal_box [hPre_diagonal_box : Cert.Pre_diagonal_box.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_diagonal_box.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_diagonal_box [hKernelIdeal : Cert.KernelIdeal.Facts] [hPre_diagonal_box : Cert.Pre_diagonal_box.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_diagonal_box m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_diagonal_box [hReferenceIdeal : Cert.ReferenceIdeal.Facts] [hPre_diagonal_box : Cert.Pre_diagonal_box.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_diagonal_box m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_diagonal_box [hKernelIdeal : Cert.KernelIdeal.Facts] [hReferenceIdeal : Cert.ReferenceIdeal.Facts] [hPre_diagonal_box : Cert.Pre_diagonal_box.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_diagonal_box m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_diagonal_box : Cert.Pre_diagonal_box.Facts),
    quiescent_Kernel (hKernel := hKernel)
    ∧ quiescent_KernelIdeal (hKernelIdeal := hKernelIdeal)
    ∧ quiescent_KernelIdeal_pre_diagonal_box (hKernelIdeal := hKernelIdeal) (hPre_diagonal_box := hPre_diagonal_box)
    ∧ quiescent_ReferenceIdeal (hReferenceIdeal := hReferenceIdeal)
    ∧ quiescent_ReferenceIdeal_pre_diagonal_box (hReferenceIdeal := hReferenceIdeal) (hPre_diagonal_box := hPre_diagonal_box)
    ∧ preserves_Kernel_KernelIdeal
    ∧ algebraic_KernelIdeal_ReferenceIdeal_pre_diagonal_box (hKernelIdeal := hKernelIdeal) (hReferenceIdeal := hReferenceIdeal) (hPre_diagonal_box := hPre_diagonal_box)
-- ==== Pre_diagonal_box.lean ====
abbrev S512x3 : Shape := ⟨2, ![512, 3]⟩
abbrev S3x3 : Shape := ⟨2, ![3, 3]⟩
abbrev S1x32 : Shape := ⟨2, ![1, 32]⟩
abbrev S32 : Shape := ⟨1, ![32]⟩
abbrev S32x64 : Shape := ⟨2, ![32, 64]⟩
abbrev S64 : Shape := ⟨1, ![64]⟩
abbrev S1024x128 : Shape := ⟨2, ![1024, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S3x3 : S_.BroadcastsInDim S3x3 (![] : Fin 0 → Fin S3x3.rank)
  reducesTo_S3x3_S_d0_1 : S3x3.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_

variable [Facts]

def fn_where {F : FTy → Type} [FloatOps F] (arg0 : IVec S3x3 1) (arg1 : IVec S3x3 1) (arg2 : IVec S3x3 1) : IVec S3x3 1 :=
  let v0 : IVec S3x3 1 := select arg0 arg1 arg2
  v0

def fn_part1 {F : FTy → Type} [FloatOps F] (main_v14 : IVec S_ 1) (main_v17 : IVec S128x1 1) : IVec S_ 1 :=
  let main_c_4 : IVec S_ 1 := constantI S_ 1 1#1
  let main_v18 : IVec S_ 1 := (fun x v => Host.reduce IntOp.andi x v reducesTo_S128x1_S_d0_1 h_S_) main_v17 main_c_4
  let main_v19 : IVec S_ 1 := andi main_v14 main_v18
  main_v19

def fn {F : FTy → Type} [FloatOps F] (main_arg0 : FVec F S512x3 .f32) (main_arg1 : FVec F S3x3 .f32) (main_arg2 : FVec F S1x32 .f32) (main_arg3 : FVec F S32 .f32) (main_arg4 : FVec F S32x64 .f32) (main_arg5 : FVec F S64 .f32) (main_arg6 : FVec F S64 .f32) (main_arg7 : FVec F S1024x128 .f32) (main_arg8 : FVec F S128 .f32) (main_arg9 : FVec F S128x128 .f32) (main_arg10 : FVec F S128 .f32) (main_arg11 : FVec F S128x1 .f32) (main_arg12 : FVec F S1 .f32) : IVec S_ 1 :=
  let main_v0 : IVec S3x3 32 := iotaInDim S3x3 32 0
  let main_v1 : IVec S3x3 32 := iotaInDim S3x3 32 1
  let main_c : IVec S_ 32 := constantI S_ 32 0#32
  let main_v2 : IVec S3x3 32 := broadcastInDim S3x3 ![] bcast_S_S3x3 main_c
  let main_v3 : IVec S3x3 32 := addi main_v0 main_v2
  let main_v4 : IVec S3x3 1 := cmpi .eq main_v3 main_v1
  let main_v5 : FVec F S3x3 .f32 := Host.absf main_arg1
  let main_cst : FVec F S_ .f32 := constant S_ .f32 0x7F800000#32
  let main_v6 : FVec F S3x3 .f32 := broadcastInDim S3x3 ![] bcast_S_S3x3 main_cst
  let main_v7 : IVec S3x3 1 := cmpf .olt main_v5 main_v6
  let main_cst_0 : FVec F S_ .f32 := constant S_ .f32 0x00000000#32
  let main_v8 : FVec F S3x3 .f32 := broadcastInDim S3x3 ![] bcast_S_S3x3 main_cst_0
  let main_v9 : IVec S3x3 1 := cmpf .une main_arg1 main_v8
  let main_v10 : IVec S3x3 1 := andi main_v7 main_v9
  let main_cst_1 : FVec F S_ .f32 := constant S_ .f32 0x00000000#32
  let main_v11 : FVec F S3x3 .f32 := broadcastInDim S3x3 ![] bcast_S_S3x3 main_cst_1
  let main_v12 : IVec S3x3 1 := cmpf .oeq main_arg1 main_v11
  let main_v13 : IVec S3x3 1 := fn_where (F := F) main_v4 main_v10 main_v12
  let main_c_2 : IVec S_ 1 := constantI S_ 1 1#1
  let main_v14 : IVec S_ 1 := (fun x v => Host.reduce IntOp.andi x v reducesTo_S3x3_S_d0_1 h_S_) main_v13 main_c_2
  let main_v15 : FVec F S128x1 .f32 := Host.absf main_arg11
  let main_cst_3 : FVec F S_ .f32 := constant S_ .f32 0x7F800000#32
  let main_v16 : FVec F S128x1 .f32 := broadcastInDim S128x1 ![] bcast_S_S128x1 main_cst_3
  let main_v17 : IVec S128x1 1 := cmpf .olt main_v15 main_v16
  fn_part1 (F := F) main_v14 main_v17
-- ==== Kernel.lean ====
abbrev S512x3 : Shape := ⟨2, ![512, 3]⟩
abbrev S3x3 : Shape := ⟨2, ![3, 3]⟩
abbrev S1x32 : Shape := ⟨2, ![1, 32]⟩
abbrev S32 : Shape := ⟨1, ![32]⟩
abbrev S32x64 : Shape := ⟨2, ![32, 64]⟩
abbrev S64 : Shape := ⟨1, ![64]⟩
abbrev S1024x128 : Shape := ⟨2, ![1024, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S32x1x1 : Shape := ⟨3, ![32, 1, 1]⟩
abbrev S1x64 : Shape := ⟨2, ![1, 64]⟩
abbrev S1x128 : Shape := ⟨2, ![1, 128]⟩
abbrev S1x1 : Shape := ⟨2, ![1, 1]⟩
abbrev S256x3 : Shape := ⟨2, ![256, 3]⟩
abbrev S3x512 : Shape := ⟨2, ![3, 512]⟩
abbrev S512x256 : Shape := ⟨2, ![512, 256]⟩
abbrev S512x1 : Shape := ⟨2, ![512, 1]⟩
abbrev S64x32 : Shape := ⟨2, ![64, 32]⟩
abbrev S1x64x32 : Shape := ⟨3, ![1, 64, 32]⟩
abbrev S8x64x32 : Shape := ⟨3, ![8, 64, 32]⟩
abbrev S512x32 : Shape := ⟨2, ![512, 32]⟩
abbrev S32x256 : Shape := ⟨2, ![32, 256]⟩
abbrev S64x1 : Shape := ⟨2, ![64, 1]⟩
abbrev S1x64x1 : Shape := ⟨3, ![1, 64, 1]⟩
abbrev S8x64x1 : Shape := ⟨3, ![8, 64, 1]⟩
abbrev S256x512 : Shape := ⟨2, ![256, 512]⟩
abbrev S256x1 : Shape := ⟨2, ![256, 1]⟩
abbrev S1x512 : Shape := ⟨2, ![1, 512]⟩
abbrev S8x512 : Shape := ⟨2, ![8, 512]⟩
abbrev S1x8x512 : Shape := ⟨3, ![1, 8, 512]⟩
abbrev S32x8x512 : Shape := ⟨3, ![32, 8, 512]⟩
abbrev S512x512 : Shape := ⟨2, ![512, 512]⟩
abbrev S8x64x512 : Shape := ⟨3, ![8, 64, 512]⟩
abbrev S8x1x512 : Shape := ⟨3, ![8, 1, 512]⟩
abbrev S8x64 : Shape := ⟨2, ![8, 64]⟩
abbrev S256x64 : Shape := ⟨2, ![256, 64]⟩
abbrev S256x1024 : Shape := ⟨2, ![256, 1024]⟩
abbrev S256x128 : Shape := ⟨2, ![256, 128]⟩

abbrev nBuf : Space → Nat
  | .hbm => 20
  | .vmem => 17
  | .smem => 2
  | _ => 0

abbrev bufTy : (tb : Table) → Fin (tcTables nBuf tb) → BufTy
  | .hbm, ⟨0, _⟩ => ⟨S512x3, .f32⟩
  | .hbm, ⟨1, _⟩ => ⟨S3x3, .f32⟩
  | .hbm, ⟨2, _⟩ => ⟨S1x32, .f32⟩
  | .hbm, ⟨3, _⟩ => ⟨S32, .f32⟩
  | .hbm, ⟨4, _⟩ => ⟨S32x64, .f32⟩
  | .hbm, ⟨5, _⟩ => ⟨S64, .f32⟩
  | .hbm, ⟨6, _⟩ => ⟨S64, .f32⟩
  | .hbm, ⟨7, _⟩ => ⟨S1024x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S32x1x1, .f32⟩
  | .hbm, ⟨14, _⟩ => ⟨S32x1x1, .f32⟩
  | .hbm, ⟨15, _⟩ => ⟨S1x64, .f32⟩
  | .hbm, ⟨16, _⟩ => ⟨S1x64, .f32⟩
  | .hbm, ⟨17, _⟩ => ⟨S1x128, .f32⟩
  | .hbm, ⟨18, _⟩ => ⟨S1x128, .f32⟩
  | .hbm, ⟨19, _⟩ => ⟨S1x1, .f32⟩
  | .local _ .vmem, ⟨0, _⟩ => ⟨S256x3, .f32⟩
  | .local _ .vmem, ⟨1, _⟩ => ⟨S256x3, .f32⟩
  | .local _ .vmem, ⟨2, _⟩ => ⟨S512x3, .f32⟩
  | .local _ .vmem, ⟨3, _⟩ => ⟨S32x1x1, .f32⟩
  | .local _ .vmem, ⟨4, _⟩ => ⟨S32x1x1, .f32⟩
  | .local _ .vmem, ⟨5, _⟩ => ⟨S32x64, .f32⟩
  | .local _ .vmem, ⟨6, _⟩ => ⟨S1x64, .f32⟩
  | .local _ .vmem, ⟨7, _⟩ => ⟨S1x64, .f32⟩
  | .local _ .vmem, ⟨8, _⟩ => ⟨S1024x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S3x512, .f32⟩
  | .local _ .vmem, ⟨15, _⟩ => ⟨S512x256, .f32⟩
  | .local _ .vmem, ⟨16, _⟩ => ⟨S512x1, .f32⟩
  | .local _ .smem, ⟨0, _⟩ => ⟨S3x3, .f32⟩
  | .local _ .smem, ⟨1, _⟩ => ⟨S1, .f32⟩
  | _, _ => ⟨S512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c0_i32_346 : BitVec 32 := 0#32
  let v1729 : BitVec 1 := Scalar.cmpi .eq arg0 c0_i32_346
  let v1730 : BitVec 32 := Scalar.extui v1729
  let c0_i32_347 : BitVec 32 := 0#32
  let v1731 : BitVec 1 := Scalar.cmpi .ne v1730 c0_i32_347
  v1731

def k0_cond3 (i : grid0.Coords) : BitVec 1 :=
  let arg0 : BitVec 32 := BitVec.ofNat 32 (i 0).val
  let c0_i32_348 : BitVec 32 := 0#32
  let v1732 : BitVec 1 := Scalar.cmpi .sgt arg0 c0_i32_348
  let v1733 : BitVec 32 := Scalar.extui v1732
  let c0_i32_349 : BitVec 32 := 0#32
  let v1734 : BitVec 1 := Scalar.cmpi .ne v1733 c0_i32_349
  v1734

def k0_cond4 (i : grid0.Coords) : BitVec 1 :=
  let arg0 : BitVec 32 := BitVec.ofNat 32 (i 0).val
  let c1_i32 : BitVec 32 := 1#32
  let v1735 : BitVec 1 := Scalar.cmpi .eq arg0 c1_i32
  let v1736 : BitVec 32 := Scalar.extui v1735
  let c0_i32_350 : BitVec 32 := 0#32
  let v1737 : BitVec 1 := Scalar.cmpi .ne v1736 c0_i32_350
  v1737

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S512x3 : Shape := ⟨2, ![512, 3]⟩
abbrev S3x3 : Shape := ⟨2, ![3, 3]⟩
abbrev S1x32 : Shape := ⟨2, ![1, 32]⟩
abbrev S32 : Shape := ⟨1, ![32]⟩
abbrev S32x64 : Shape := ⟨2, ![32, 64]⟩
abbrev S64 : Shape := ⟨1, ![64]⟩
abbrev S1024x128 : Shape := ⟨2, ![1024, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S512x1x3 : Shape := ⟨3, ![512, 1, 3]⟩
abbrev S1x512x3 : Shape := ⟨3, ![1, 512, 3]⟩
abbrev S512x512x3 : Shape := ⟨3, ![512, 512, 3]⟩
abbrev S1x1 : Shape := ⟨2, ![1, 1]⟩
abbrev S_ : Shape := ⟨0, ![]⟩
abbrev S3 : Shape := ⟨1, ![3]⟩
abbrev S1x3 : Shape := ⟨2, ![1, 3]⟩
abbrev S512x512 : Shape := ⟨2, ![512, 512]⟩
abbrev S512x512x1 : Shape := ⟨3, ![512, 512, 1]⟩
abbrev S512x512x4 : Shape := ⟨3, ![512, 512, 4]⟩
abbrev S512x512x32 : Shape := ⟨3, ![512, 512, 32]⟩
abbrev S1x1x32 : Shape := ⟨3, ![1, 1, 32]⟩
abbrev S512x512x64 : Shape := ⟨3, ![512, 512, 64]⟩
abbrev S1x1x64 : Shape := ⟨3, ![1, 1, 64]⟩
abbrev S512x4x64 : Shape := ⟨3, ![512, 4, 64]⟩
abbrev S512x1x64 : Shape := ⟨3, ![512, 1, 64]⟩
abbrev S512x64 : Shape := ⟨2, ![512, 64]⟩
abbrev S1x64 : Shape := ⟨2, ![1, 64]⟩
abbrev S512x3x64 : Shape := ⟨3, ![512, 3, 64]⟩
abbrev S512x16 : Shape := ⟨2, ![512, 16]⟩
abbrev S512x16x1 : Shape := ⟨3, ![512, 16, 1]⟩
abbrev S512x16x64 : Shape := ⟨3, ![512, 16, 64]⟩
abbrev S512x3x1x64 : Shape := ⟨4, ![512, 3, 1, 64]⟩
abbrev S512x3x16 : Shape := ⟨3, ![512, 3, 16]⟩
abbrev S512x3x16x1 : Shape := ⟨4, ![512, 3, 16, 1]⟩
abbrev S512x3x16x64 : Shape := ⟨4, ![512, 3, 16, 64]⟩
abbrev S512x1024 : Shape := ⟨2, ![512, 1024]⟩
abbrev S512x128 : Shape := ⟨2, ![512, 128]⟩
abbrev S1x128 : Shape := ⟨2, ![1, 128]⟩
abbrev S512x1 : Shape := ⟨2, ![512, 1]⟩
abbrev S512 : Shape := ⟨1, ![512]⟩

abbrev nBuf : Space → Nat
  | .hbm => 305
  | .vmem => 0
  | .smem => 0
  | _ => 0

abbrev hbmTy0_0 (i : Nat) : BufTy := match i % 128 with
  | 0 => ⟨S512x3, .f32⟩
  | 1 => ⟨S3x3, .f32⟩
  | 2 => ⟨S1x32, .f32⟩
  | 3 => ⟨S32, .f32⟩
  | 4 => ⟨S32x64, .f32⟩
  | 5 => ⟨S64, .f32⟩
  | 6 => ⟨S64, .f32⟩
  | 7 => ⟨S1024x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S512x1x3, .f32⟩
  | 14 => ⟨S1x512x3, .f32⟩
  | 15 => ⟨S512x512x3, .f32⟩
  | 16 => ⟨S512x512x3, .f32⟩
  | 17 => ⟨S512x512x3, .f32⟩
  | 18 => ⟨S1x1, .f32⟩
  | 19 => ⟨S_, .f32⟩
  | 20 => ⟨S1x1, .f32⟩
  | 21 => ⟨S_, .f32⟩
  | 22 => ⟨S_, .f32⟩
  | 23 => ⟨S1x1, .f32⟩
  | 24 => ⟨S_, .f32⟩
  | 25 => ⟨S1x1, .f32⟩
  | 26 => ⟨S_, .f32⟩
  | 27 => ⟨S_, .f32⟩
  | 28 => ⟨S_, .f32⟩
  | 29 => ⟨S1x1, .f32⟩
  | 30 => ⟨S_, .f32⟩
  | 31 => ⟨S1x1, .f32⟩
  | 32 => ⟨S_, .f32⟩
  | 33 => ⟨S_, .f32⟩
  | 34 => ⟨S1x1, .f32⟩
  | 35 => ⟨S_, .f32⟩
  | 36 => ⟨S1x1, .f32⟩
  | 37 => ⟨S_, .f32⟩
  | 38 => ⟨S_, .f32⟩
  | 39 => ⟨S_, .f32⟩
  | 40 => ⟨S_, .f32⟩
  | 41 => ⟨S1x1, .f32⟩
  | 42 => ⟨S_, .f32⟩
  | 43 => ⟨S1x1, .f32⟩
  | 44 => ⟨S_, .f32⟩
  | 45 => ⟨S_, .f32⟩
  | 46 => ⟨S1x1, .f32⟩
  | 47 => ⟨S_, .f32⟩
  | 48 => ⟨S1x1, .f32⟩
  | 49 => ⟨S_, .f32⟩
  | 50 => ⟨S_, .f32⟩
  | 51 => ⟨S_, .f32⟩
  | 52 => ⟨S1, .f32⟩
  | 53 => ⟨S1, .f32⟩
  | 54 => ⟨S1, .f32⟩
  | 55 => ⟨S3, .f32⟩
  | 56 => ⟨S1x1, .f32⟩
  | 57 => ⟨S_, .f32⟩
  | 58 => ⟨S1x1, .f32⟩
  | 59 => ⟨S_, .f32⟩
  | 60 => ⟨S_, .f32⟩
  | 61 => ⟨S1x1, .f32⟩
  | 62 => ⟨S_, .f32⟩
  | 63 => ⟨S1x1, .f32⟩
  | 64 => ⟨S_, .f32⟩
  | 65 => ⟨S_, .f32⟩
  | 66 => ⟨S_, .f32⟩
  | 67 => ⟨S_, .f32⟩
  | 68 => ⟨S1x1, .f32⟩
  | 69 => ⟨S_, .f32⟩
  | 70 => ⟨S1x1, .f32⟩
  | 71 => ⟨S_, .f32⟩
  | 72 => ⟨S_, .f32⟩
  | 73 => ⟨S1x1, .f32⟩
  | 74 => ⟨S_, .f32⟩
  | 75 => ⟨S1x1, .f32⟩
  | 76 => ⟨S_, .f32⟩
  | 77 => ⟨S_, .f32⟩
  | 78 => ⟨S_, .f32⟩
  | 79 => ⟨S1x1, .f32⟩
  | 80 => ⟨S_, .f32⟩
  | 81 => ⟨S1x1, .f32⟩
  | 82 => ⟨S_, .f32⟩
  | 83 => ⟨S_, .f32⟩
  | 84 => ⟨S1x1, .f32⟩
  | 85 => ⟨S_, .f32⟩
  | 86 => ⟨S1x1, .f32⟩
  | 87 => ⟨S_, .f32⟩
  | 88 => ⟨S_, .f32⟩
  | 89 => ⟨S_, .f32⟩
  | 90 => ⟨S_, .f32⟩
  | 91 => ⟨S1, .f32⟩
  | 92 => ⟨S1, .f32⟩
  | 93 => ⟨S1, .f32⟩
  | 94 => ⟨S3, .f32⟩
  | 95 => ⟨S1x1, .f32⟩
  | 96 => ⟨S_, .f32⟩
  | 97 => ⟨S1x1, .f32⟩
  | 98 => ⟨S_, .f32⟩
  | 99 => ⟨S_, .f32⟩
  | 100 => ⟨S1x1, .f32⟩
  | 101 => ⟨S_, .f32⟩
  | 102 => ⟨S1x1, .f32⟩
  | 103 => ⟨S_, .f32⟩
  | 104 => ⟨S_, .f32⟩
  | 105 => ⟨S_, .f32⟩
  | 106 => ⟨S1x1, .f32⟩
  | 107 => ⟨S_, .f32⟩
  | 108 => ⟨S1x1, .f32⟩
  | 109 => ⟨S_, .f32⟩
  | 110 => ⟨S_, .f32⟩
  | 111 => ⟨S1x1, .f32⟩
  | 112 => ⟨S_, .f32⟩
  | 113 => ⟨S1x1, .f32⟩
  | 114 => ⟨S_, .f32⟩
  | 115 => ⟨S_, .f32⟩
  | 116 => ⟨S_, .f32⟩
  | 117 => ⟨S_, .f32⟩
  | 118 => ⟨S1x1, .f32⟩
  | 119 => ⟨S_, .f32⟩
  | 120 => ⟨S1x1, .f32⟩
  | 121 => ⟨S_, .f32⟩
  | 122 => ⟨S_, .f32⟩
  | 123 => ⟨S1x1, .f32⟩
  | 124 => ⟨S_, .f32⟩
  | 125 => ⟨S1x1, .f32⟩
  | 126 => ⟨S_, .f32⟩
  | 127 => ⟨S_, .f32⟩
  | _ => ⟨S512x3, .f32⟩

abbrev hbmTy0_1 (i : Nat) : BufTy := match i % 128 with
  | 0 => ⟨S_, .f32⟩
  | 1 => ⟨S1, .f32⟩
  | 2 => ⟨S1, .f32⟩
  | 3 => ⟨S1, .f32⟩
  | 4 => ⟨S3, .f32⟩
  | 5 => ⟨S1x3, .f32⟩
  | 6 => ⟨S1x3, .f32⟩
  | 7 => ⟨S1x3, .f32⟩
  | 8 => ⟨S3x3, .f32⟩
  | 9 => ⟨S1x1, .f32⟩
  | 10 => ⟨S_, .f32⟩
  | 11 => ⟨S1x1, .f32⟩
  | 12 => ⟨S_, .f32⟩
  | 13 => ⟨S_, .f32⟩
  | 14 => ⟨S1x1, .f32⟩
  | 15 => ⟨S_, .f32⟩
  | 16 => ⟨S1x1, .f32⟩
  | 17 => ⟨S_, .f32⟩
  | 18 => ⟨S_, .f32⟩
  | 19 => ⟨S_, .f32⟩
  | 20 => ⟨S1x1, .f32⟩
  | 21 => ⟨S_, .f32⟩
  | 22 => ⟨S1x1, .f32⟩
  | 23 => ⟨S_, .f32⟩
  | 24 => ⟨S_, .f32⟩
  | 25 => ⟨S_, .f32⟩
  | 26 => ⟨S3x3, .f32⟩
  | 27 => ⟨S3x3, .f32⟩
  | 28 => ⟨S512x512x3, .f32⟩
  | 29 => ⟨S512x512x3, .f32⟩
  | 30 => ⟨S512x512x3, .f32⟩
  | 31 => ⟨S512x512x3, .f32⟩
  | 32 => ⟨S512x512x3, .f32⟩
  | 33 => ⟨S_, .f32⟩
  | 34 => ⟨S512x512, .f32⟩
  | 35 => ⟨S_, .f32⟩
  | 36 => ⟨S512x512, .f32⟩
  | 37 => ⟨S512x512, .f32⟩
  | 38 => ⟨S512x512, .f32⟩
  | 39 => ⟨S512x512, .i32⟩
  | 40 => ⟨S512x512, .i32⟩
  | 41 => ⟨S_, .i32⟩
  | 42 => ⟨S512x512, .i32⟩
  | 43 => ⟨S512x512, .i32⟩
  | 44 => ⟨S512x512, .i1⟩
  | 45 => ⟨S_, .f32⟩
  | 46 => ⟨S512x512, .f32⟩
  | 47 => ⟨S512x512, .f32⟩
  | 48 => ⟨S_, .f32⟩
  | 49 => ⟨S512x512, .f32⟩
  | 50 => ⟨S512x512, .f32⟩
  | 51 => ⟨S_, .f32⟩
  | 52 => ⟨S_, .f32⟩
  | 53 => ⟨S_, .f32⟩
  | 54 => ⟨S512x512, .f32⟩
  | 55 => ⟨S512x512, .f32⟩
  | 56 => ⟨S_, .f32⟩
  | 57 => ⟨S512x512, .f32⟩
  | 58 => ⟨S512x512, .f32⟩
  | 59 => ⟨S512x512, .f32⟩
  | 60 => ⟨S512x512, .f32⟩
  | 61 => ⟨S_, .f32⟩
  | 62 => ⟨S512x512, .f32⟩
  | 63 => ⟨S512x512, .f32⟩
  | 64 => ⟨S512x512, .f32⟩
  | 65 => ⟨S_, .f32⟩
  | 66 => ⟨S512x512, .f32⟩
  | 67 => ⟨S512x512, .f32⟩
  | 68 => ⟨S512x512, .f32⟩
  | 69 => ⟨S_, .f32⟩
  | 70 => ⟨S512x512, .f32⟩
  | 71 => ⟨S512x512, .f32⟩
  | 72 => ⟨S512x512, .f32⟩
  | 73 => ⟨S_, .f32⟩
  | 74 => ⟨S512x512, .f32⟩
  | 75 => ⟨S512x512, .f32⟩
  | 76 => ⟨S_, .f32⟩
  | 77 => ⟨S512x512, .f32⟩
  | 78 => ⟨S512x512, .f32⟩
  | 79 => ⟨S_, .f32⟩
  | 80 => ⟨S512x512, .f32⟩
  | 81 => ⟨S512x512, .f32⟩
  | 82 => ⟨S_, .f32⟩
  | 83 => ⟨S512x512, .f32⟩
  | 84 => ⟨S512x512, .i1⟩
  | 85 => ⟨S512x512, .f32⟩
  | 86 => ⟨S_, .f32⟩
  | 87 => ⟨S_, .f32⟩
  | 88 => ⟨S512x512, .f32⟩
  | 89 => ⟨S512x512, .f32⟩
  | 90 => ⟨S_, .f32⟩
  | 91 => ⟨S_, .f32⟩
  | 92 => ⟨S512x512, .f32⟩
  | 93 => ⟨S512x512, .f32⟩
  | 94 => ⟨S_, .f32⟩
  | 95 => ⟨S512x512, .f32⟩
  | 96 => ⟨S512x512, .f32⟩
  | 97 => ⟨S_, .f32⟩
  | 98 => ⟨S512x512, .f32⟩
  | 99 => ⟨S512x512, .f32⟩
  | 100 => ⟨S_, .f32⟩
  | 101 => ⟨S512x512, .f32⟩
  | 102 => ⟨S512x512, .f32⟩
  | 103 => ⟨S512x512x1, .f32⟩
  | 104 => ⟨S_, .f32⟩
  | 105 => ⟨S512x512x1, .f32⟩
  | 106 => ⟨S512x512x1, .f32⟩
  | 107 => ⟨S512x512x3, .f32⟩
  | 108 => ⟨S512x512x3, .f32⟩
  | 109 => ⟨S512x512x1, .f32⟩
  | 110 => ⟨S_, .f32⟩
  | 111 => ⟨S512x512x1, .f32⟩
  | 112 => ⟨S512x512x1, .f32⟩
  | 113 => ⟨S512x512x3, .f32⟩
  | 114 => ⟨S512x512x3, .f32⟩
  | 115 => ⟨S512x512x1, .f32⟩
  | 116 => ⟨S512x512x4, .f32⟩
  | 117 => ⟨S512x512x1, .f32⟩
  | 118 => ⟨S512x512x32, .f32⟩
  | 119 => ⟨S1x1x32, .f32⟩
  | 120 => ⟨S512x512x32, .f32⟩
  | 121 => ⟨S512x512x32, .f32⟩
  | 122 => ⟨S512x512x32, .f32⟩
  | 123 => ⟨S512x512x64, .f32⟩
  | 124 => ⟨S1x1x64, .f32⟩
  | 125 => ⟨S512x512x64, .f32⟩
  | 126 => ⟨S512x512x64, .f32⟩
  | 127 => ⟨S512x512x64, .f32⟩
  | _ => ⟨S512x3, .f32⟩

abbrev hbmTy0_2 (i : Nat) : BufTy := match i % 128 with
  | 0 => ⟨S512x4x64, .f32⟩
  | 1 => ⟨S_, .f32⟩
  | 2 => ⟨S512x4x64, .f32⟩
  | 3 => ⟨S512x4x64, .f32⟩
  | 4 => ⟨S512x1x64, .f32⟩
  | 5 => ⟨S512x64, .f32⟩
  | 6 => ⟨S1x64, .f32⟩
  | 7 => ⟨S512x64, .f32⟩
  | 8 => ⟨S512x64, .f32⟩
  | 9 => ⟨S512x3x64, .f32⟩
  | 10 => ⟨S512x1x64, .f32⟩
  | 11 => ⟨S512x16, .f32⟩
  | 12 => ⟨S512x16x1, .f32⟩
  | 13 => ⟨S512x16x64, .f32⟩
  | 14 => ⟨S512x16x64, .f32⟩
  | 15 => ⟨S512x16x64, .f32⟩
  | 16 => ⟨S512x3x1x64, .f32⟩
  | 17 => ⟨S512x3x16, .f32⟩
  | 18 => ⟨S512x3x16x1, .f32⟩
  | 19 => ⟨S512x3x16x64, .f32⟩
  | 20 => ⟨S512x3x16x64, .f32⟩
  | 21 => ⟨S512x3x16x64, .f32⟩
  | 22 => ⟨S_, .f32⟩
  | 23 => ⟨S512x16x64, .f32⟩
  | 24 => ⟨S512x16x64, .f32⟩
  | 25 => ⟨S512x1024, .f32⟩
  | 26 => ⟨S512x128, .f32⟩
  | 27 => ⟨S1x128, .f32⟩
  | 28 => ⟨S512x128, .f32⟩
  | 29 => ⟨S512x128, .f32⟩
  | 30 => ⟨S512x128, .f32⟩
  | 31 => ⟨S512x128, .f32⟩
  | 32 => ⟨S1x128, .f32⟩
  | 33 => ⟨S512x128, .f32⟩
  | 34 => ⟨S512x128, .f32⟩
  | 35 => ⟨S512x128, .f32⟩
  | 36 => ⟨S512x1, .f32⟩
  | 37 => ⟨S1x1, .f32⟩
  | 38 => ⟨S512x1, .f32⟩
  | 39 => ⟨S512x1, .f32⟩
  | 40 => ⟨S512, .f32⟩
  | 41 => ⟨S_, .f32⟩
  | 42 => ⟨S512, .f32⟩
  | 43 => ⟨S512, .f32⟩
  | 44 => ⟨S_, .f32⟩
  | 45 => ⟨S_, .f32⟩
  | 46 => ⟨S_, .f32⟩
  | 47 => ⟨S_, .f32⟩
  | 48 => ⟨S1x1, .f32⟩
  | _ => ⟨S512x3, .f32⟩

abbrev hbmTy (i : Nat) : BufTy := match i / 128 with
  | 0 => hbmTy0_0 i
  | 1 => hbmTy0_1 i
  | 2 => hbmTy0_2 i
  | _ => ⟨S512x3, .f32⟩

abbrev bufTy : (tb : Table) → Fin (tcTables nBuf tb) → BufTy
  | .hbm, ⟨i, _⟩ => hbmTy i
  | _, _ => ⟨S512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_cst : Ref sig .tc := ⟨.hbm, 161, rfl⟩
abbrev main_v148 : Ref sig .tc := ⟨.hbm, 162, rfl⟩
abbrev main_cst_0 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_c : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_cst_1 : Ref sig .tc := ⟨.hbm, 173, rfl⟩
abbrev main_v157 : Ref sig .tc := ⟨.hbm, 174, rfl⟩
abbrev main_v158 : Ref sig .tc := ⟨.hbm, 175, rfl⟩
abbrev main_cst_2 : Ref sig .tc := ⟨.hbm, 176, rfl⟩
abbrev main_v159 : Ref sig .tc := ⟨.hbm, 177, rfl⟩
abbrev main_v160 : Ref sig .tc := ⟨.hbm, 178, rfl⟩
abbrev main_cst_3 : Ref sig .tc := ⟨.hbm, 179, rfl⟩
abbrev main_cst_4 : Ref sig .tc := ⟨.hbm, 180, rfl⟩
abbrev main_call1_v0 : Ref sig .tc := ⟨.hbm, 181, rfl⟩
abbrev main_call1_v1 : Ref sig .tc := ⟨.hbm, 182, rfl⟩
abbrev main_call1_v2 : Ref sig .tc := ⟨.hbm, 183, rfl⟩
abbrev main_call1_v3 : Ref sig .tc := ⟨.hbm, 184, rfl⟩
abbrev main_call1_v4 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_cst_5 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_cst_6 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_cst_7 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_cst_8 : Ref sig .tc := ⟨.hbm, 201, rfl⟩
abbrev main_v173 : Ref sig .tc := ⟨.hbm, 202, rfl⟩
abbrev main_v174 : Ref sig .tc := ⟨.hbm, 203, rfl⟩
abbrev main_cst_9 : Ref sig .tc := ⟨.hbm, 204, rfl⟩
abbrev main_v175 : Ref sig .tc := ⟨.hbm, 205, rfl⟩
abbrev main_v176 : Ref sig .tc := ⟨.hbm, 206, rfl⟩
abbrev main_cst_10 : Ref sig .tc := ⟨.hbm, 207, rfl⟩
abbrev main_v177 : Ref sig .tc := ⟨.hbm, 208, rfl⟩
abbrev main_v178 : Ref sig .tc := ⟨.hbm, 209, rfl⟩
abbrev main_cst_11 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_cst_12 : Ref sig .tc := ⟨.hbm, 214, rfl⟩
abbrev main_call2_v0 : Ref sig .tc := ⟨.hbm, 215, rfl⟩
abbrev main_call2_v1 : Ref sig .tc := ⟨.hbm, 216, rfl⟩
abbrev main_v182 : Ref sig .tc := ⟨.hbm, 217, rfl⟩
abbrev main_cst_13 : Ref sig .tc := ⟨.hbm, 218, rfl⟩
abbrev main_call3_v0 : Ref sig .tc := ⟨.hbm, 219, rfl⟩
abbrev main_call3_v1 : Ref sig .tc := ⟨.hbm, 220, rfl⟩
abbrev main_v183 : Ref sig .tc := ⟨.hbm, 221, rfl⟩
abbrev main_cst_14 : Ref sig .tc := ⟨.hbm, 222, rfl⟩
abbrev main_v184 : Ref sig .tc := ⟨.hbm, 223, rfl⟩
abbrev main_v185 : Ref sig .tc := ⟨.hbm, 224, rfl⟩
abbrev main_cst_15 : Ref sig .tc := ⟨.hbm, 225, rfl⟩
abbrev main_v186 : Ref sig .tc := ⟨.hbm, 226, rfl⟩
abbrev main_v187 : Ref sig .tc := ⟨.hbm, 227, rfl⟩
abbrev main_cst_16 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_cst_17 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_cst_18 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_cst_19 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_cst_20 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_cst_21 : Ref sig .tc := ⟨.hbm, 297, rfl⟩
abbrev main_v252 : Ref sig .tc := ⟨.hbm, 298, rfl⟩
abbrev main_v253 : Ref sig .tc := ⟨.hbm, 299, rfl⟩
abbrev main_cst_22 : Ref sig .tc := ⟨.hbm, 300, rfl⟩
abbrev main_v254 : Ref sig .tc := ⟨.hbm, 301, rfl⟩
abbrev main_cst_23 : Ref sig .tc := ⟨.hbm, 302, rfl⟩
abbrev main_v255 : Ref sig .tc := ⟨.hbm, 303, rfl⟩
abbrev main_v256 : Ref sig .tc := ⟨.hbm, 304, rfl⟩

abbrev nD : Nat := 1
abbrev τ : Topo := Topo.v7x

variable {F : FTy → Type} [FloatOps F]
-- ==== Proof.Terms.lean ====
/- One grid point's arithmetic as a tower of vector operations: the printed body computes these
   terms, one per intermediate value, each stated once for every group of eight rows and for every
   feature column. -/
module

public import proofs.«01_k».proof.Proof.Gen.KernelIdeal.Skeleton

@[expose] public section

noncomputable section

namespace Cert.KernelIdeal.Terms

open Cert.KernelIdeal Cert.KernelIdeal.Gen Idealize.ShloMosaic

variable {F : FTy → Type} [FloatOps F]

/-- Column `d` of a block of coordinates is a slice of it. -/
theorem slice_col (d : Fin 3) : S256x3.Slices ![0, d.val] S256x1 := by revert d; decide
/-- Row `d` of the transposed coordinates is a slice of them. -/
theorem slice_row (d : Fin 3) : S3x512.Slices ![d.val, 0] S1x512 := by revert d; decide
/-- The eight rows of group `g` are a slice of the block's rows. -/
theorem slice_group (g : Fin 32) : S256x512.Slices ![8 * g.val, 0] S8x512 := by revert g; decide
/-- Column `a` of a block of moments is a slice of it. -/
theorem slice_feat (a : Fin 16) : S256x64.Slices ![0, a.val] S256x1 := by revert a; decide

/-- The differences of coordinate `d` between the block's rows and all points. -/
def diffV (cb : FVec F S256x3 .f32) (ct : FVec F S3x512 .f32) (d : Fin 3) : FVec F S256x512 .f32 :=
  subf (broadcastTo S256x512 (extractStridedSlice S256x1 ![0, d.val] cb (slice_col d)) broadcasts_S256x1_S256x512)
    (broadcastTo S256x512 (extractStridedSlice S1x512 ![d.val, 0] ct (slice_row d)) broadcasts_S1x512_S256x512)

/-- The minimum-image displacement of coordinate `d` for a box of edge `L`. -/
def dispV (cb : FVec F S256x3 .f32) (ct : FVec F S3x512 .f32) (d : Fin 3) (L : F .f32) : FVec F S256x512 .f32 :=
  mulf (subf (mulf (diffV cb ct d) (broadcast S256x512 (Scalar.divf (Scalar.ofBits .f32 0x3F800000#32) L)))
      (roundeven (mulf (diffV cb ct d) (broadcast S256x512 (Scalar.divf (Scalar.ofBits .f32 0x3F800000#32) L)))))
    (broadcast S256x512 L)

/-- The regularised distance of three displacements. -/
def distV (d0 d1 d2 : FVec F S256x512 .f32) : FVec F S256x512 .f32 :=
  sqrt (addf (addf (addf (broadcast S256x512 (Scalar.ofBits .f32 0x24E69595#32)) (mulf d0 d0)) (mulf d1 d1)) (mulf d2 d2))

/-- The clipped switching variable of a distance. -/
def clipV (r : FVec F S256x512 .f32) : FVec F S256x512 .f32 :=
  minimumf (broadcast S256x512 (Scalar.ofBits .f32 0x3F800000#32))
    (maximumf (broadcast S256x512 (Scalar.ofBits .f32 0x00000000#32))
      (divf (subf r (broadcast S256x512 (Scalar.ofBits .f32 0x3F000000#32))) (broadcast S256x512 (Scalar.ofBits .f32 0x40B00000#32))))

/-- The switching polynomial of its clipped variable. -/
def polyV (u : FVec F S256x512 .f32) : FVec F S256x512 .f32 :=
  addf (mulf (mulf (mulf u u) u)
      (subf (addf (mulf (mulf (broadcast S256x512 (Scalar.ofBits .f32 0xC0C00000#32)) u) u)
          (mulf (broadcast S256x512 (Scalar.ofBits .f32 0x41700000#32)) u))
        (broadcast S256x512 (Scalar.ofBits .f32 0x41200000#32))))
    (broadcast S256x512 (Scalar.ofBits .f32 0x3F800000#32))

/-- The switched inverse distance: zero from the cutoff on. -/
def switchV (r : FVec F S256x512 .f32) : FVec F S256x512 .f32 :=
  select (cmpf .olt r (broadcast S256x512 (Scalar.ofBits .f32 0x40C00000#32)))
    (mulf (divf (broadcast S256x512 (Scalar.ofBits .f32 0x3F800000#32))
        (maximumf r (broadcast S256x512 (Scalar.ofBits .f32 0x322BCC77#32)))) (polyV (clipV r)))
    (broadcast S256x512 (Scalar.ofBits .f32 0x00000000#32))

/-- The pairs of a block that are a point with itself. -/
def maskV (arg0 : BitVec 32) : IVec S256x512 1 :=
  cmpi .eq (addi (broadcast S256x512 (Scalar.muli arg0 256#32)) (iota .tc S256x512 32 [0] iota_S256x512_d0_w32))
    (iota .tc S256x512 32 [1] iota_S256x512_d1_w32)

/-- The switched inverse distance with the pairs of a point with itself removed. -/
def srV (arg0 : BitVec 32) (r : FVec F S256x512 .f32) : FVec F S256x512 .f32 :=
  select (maskV arg0) (broadcast S256x512 (Scalar.ofBits .f32 0x00000000#32)) (switchV r)

/-- The scaled inverse distance. -/
def srnV (s : FVec F S256x512 .f32) : FVec F S256x512 .f32 :=
  divf s (broadcast S256x512 (Scalar.ofBits .f32 0x3E99999A#32))

/-- The centred and scaled inverse distance. -/
def sncV (s : FVec F S256x512 .f32) : FVec F S256x512 .f32 :=
  divf (subf s (broadcast S256x512 (Scalar.ofBits .f32 0x3DCCCCCD#32))) (broadcast S256x512 (Scalar.ofBits .f32 0x3E99999A#32))

/-- One direction component of the local environment. -/
def dirV (s r d : FVec F S256x512 .f32) : FVec F S256x512 .f32 :=
  mulf (mulf (broadcast S256x512 (Scalar.ofBits .f32 0x3FDDB3D7#32)) (srnV s))
    (mulf d (divf (broadcast S256x512 (Scalar.ofBits .f32 0x3F800000#32))
      (addf r (broadcast S256x512 (Scalar.ofBits .f32 0x24E69595#32)))))

/-- The embedding of group `g`: two dense layers, the second as one product with the block-diagonal
    weights `W`. -/
def embV (snc : FVec F S256x512 .f32) (w1 b1 : FVec F S32x1x1 .f32) (W : FVec F S512x256 .f32) (B : FVec F S512x1 .f32)
    (g : Fin 32) : FVec F S8x64x512 .f32 :=
  shapeCast S8x64x512 (tanh (addf
    (matmul dot_S512x256_S256x512_S512x512_1_0_0_1_n_n none W
      (shapeCast S256x512 (tanh (addf
        (mulf (broadcastTo S32x8x512 (shapeCast S32x1x1 w1 shapeCasts_S32x1x1_S32x1x1) broadcasts_S32x1x1_S32x8x512)
          (broadcastTo S32x8x512 (shapeCast S1x8x512 (extractStridedSlice S8x512 ![8 * g.val, 0] snc (slice_group g))
            shapeCasts_S8x512_S1x8x512) broadcasts_S1x8x512_S32x8x512))
        (broadcastTo S32x8x512 (shapeCast S32x1x1 b1 shapeCasts_S32x1x1_S32x1x1) broadcasts_S32x1x1_S32x8x512)))
        shapeCasts_S32x8x512_S256x512) (constant S512x512 .f32 0x00000000#32))
    (broadcastTo S512x512 B broadcasts_S512x1_S512x512))) shapeCasts_S512x512_S8x64x512

/-- The moments of group `g`: the mean over all points of the embedding times one component. -/
def momV (R : FVec F S256x512 .f32) (G : FVec F S8x64x512 .f32) (g : Fin 32) : FVec F S8x64 .f32 :=
  mulf (multiReduction .add [2] S8x64
      (mulf G (broadcastTo S8x64x512 (shapeCast S8x1x512 (extractStridedSlice S8x512 ![8 * g.val, 0] R (slice_group g))
        shapeCasts_S8x512_S8x1x512) broadcasts_S8x1x512_S8x64x512))
      0x00000000#32 reduces_S8x64x512_S8x64 (.inl rfl) rfl)
    (broadcast S8x64 (Scalar.ofBits .f32 0x3C000000#32))

/-- The moments of all groups, stacked. -/
def stackV (R snc : FVec F S256x512 .f32) (w1 b1 : FVec F S32x1x1 .f32) (W : FVec F S512x256 .f32) (B : FVec F S512x1 .f32) :
    FVec F S256x64 .f32 :=
  concatenate S256x64 0 (List.ofFn fun g : Fin 32 => ⟨S8x64, momV R (embV snc w1 b1 W B g) g⟩)
    concatenates_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S8x64_S256x64_d0

/-- The radial moments with their bias. -/
def tnV (T : FVec F S256x64 .f32) (tb : FVec F S1x64 .f32) : FVec F S256x64 .f32 :=
  addf T (broadcastTo S256x64 (shapeCast S1x64 tb shapeCasts_S1x64_S1x64) broadcasts_S1x64_S256x64)

/-- A block of moments times its own column `a`. -/
def colV (T : FVec F S256x64 .f32) (a : Fin 16) : FVec F S256x64 .f32 :=
  mulf T (broadcastTo S256x64 (extractStridedSlice S256x1 ![0, a.val] T (slice_feat a)) broadcasts_S256x1_S256x64)

/-- Feature block `a`: the sum over the four components of their products with column `a`. -/
def featV (T0 T1 T2 T3 : FVec F S256x64 .f32) (a : Fin 16) : FVec F S256x64 .f32 :=
  addf (addf (addf (colV T0 a) (colV T1 a)) (colV T2 a)) (colV T3 a)

/-- The sixteen feature blocks side by side. -/
def featsV (T0 T1 T2 T3 : FVec F S256x64 .f32) : FVec F S256x1024 .f32 :=
  concatenate S256x1024 1 (List.ofFn fun a : Fin 16 => ⟨S256x64, featV T0 T1 T2 T3 a⟩)
    concatenates_S256x64_S256x64_S256x64_S256x64_S256x64_S256x64_S256x64_S256x64_S256x64_S256x64_S256x64_S256x64_S256x64_S256x64_S256x64_S256x64_S256x1024_d1

/-- The first dense layer of the fitting network. -/
def fit1V (X : FVec F S256x1024 .f32) (W : FVec F S1024x128 .f32) (b : FVec F S1x128 .f32) : FVec F S256x128 .f32 :=
  tanh (addf (matmul dot_S256x1024_S1024x128_S256x128_1_0_0_1_n_n none X W (constant S256x128 .f32 0x00000000#32))
    (broadcastTo S256x128 (shapeCast S1x128 b shapeCasts_S1x128_S1x128) broadcasts_S1x128_S256x128))

/-- The second dense layer of the fitting network. -/
def fit2V (X : FVec F S256x128 .f32) (W : FVec F S128x128 .f32) (b : FVec F S1x128 .f32) : FVec F S256x128 .f32 :=
  tanh (addf (matmul dot_S256x128_S128x128_S256x128_1_0_0_1_n_n none X W (constant S256x128 .f32 0x00000000#32))
    (broadcastTo S256x128 (shapeCast S1x128 b shapeCasts_S1x128_S1x128) broadcasts_S1x128_S256x128))

/-- The block's contribution: the column sums of the last layer against the output weights. -/
def headV (X : FVec F S256x128 .f32) (W : FVec F S128x1 .f32) : FVec F S1x1 .f32 :=
  matmul dot_S1x128_S128x1_S1x1_1_0_0_1_n_n none
    (shapeCast S1x128 (multiReduction .add [0] S128 X 0x00000000#32 reduces_S256x128_S128 (.inl rfl) rfl) shapeCasts_S128_S1x128)
    W (constant S1x1 .f32 0x00000000#32)

/-- The block's contribution from its inverse distances, distances and displacements. -/
def restV (s r d0 d1 d2 : FVec F S256x512 .f32) (w1 b1 : FVec F S32x1x1 .f32) (W : FVec F S512x256 .f32)
    (B : FVec F S512x1 .f32) (tb : FVec F S1x64 .f32) (Wf1 : FVec F S1024x128 .f32) (bf1 : FVec F S1x128 .f32)
    (Wf2 : FVec F S128x128 .f32) (bf2 : FVec F S1x128 .f32) (Wf3 : FVec F S128x1 .f32) : FVec F S1x1 .f32 :=
  headV (fit2V (fit1V (featsV
    (tnV (stackV (srnV s) (sncV s) w1 b1 W B) tb)
    (stackV (dirV s r d0) (sncV s) w1 b1 W B)
    (stackV (dirV s r d1) (sncV s) w1 b1 W B)
    (stackV (dirV s r d2) (sncV s) w1 b1 W B)) Wf1 bf1) Wf2 bf2) Wf3

/-- The block's contribution from the coordinates. -/
def blockV (arg0 : BitVec 32) (cb : FVec F S256x3 .f32) (ct : FVec F S3x512 .f32) (L0 L1 L2 : F .f32)
    (w1 b1 : FVec F S32x1x1 .f32) (W : FVec F S512x256 .f32)
    (B : FVec F S512x1 .f32) (tb : FVec F S1x64 .f32) (Wf1 : FVec F S1024x128 .f32) (bf1 : FVec F S1x128 .f32)
    (Wf2 : FVec F S128x128 .f32) (bf2 : FVec F S1x128 .f32) (Wf3 : FVec F S128x1 .f32) : FVec F S1x1 .f32 :=
  restV (srV arg0 (distV (dispV cb ct 0 L0) (dispV cb ct 1 L1) (dispV cb ct 2 L2)))
    (distV (dispV cb ct 0 L0) (dispV cb ct 1 L1) (dispV cb ct 2 L2))
    (dispV cb ct 0 L0) (dispV cb ct 1 L1) (dispV cb ct 2 L2) w1 b1 W B tb Wf1 bf1 Wf2 bf2 Wf3

end Cert.KernelIdeal.Terms

end
-- ==== Proof.Found.lean ====
/- What the two control cases of the printed body store: the first point's prepared scratch arrays and
   its contribution, and the second point's accumulated and finished result, as the terms of `Terms`. -/
module

public import proofs.«01_k».proof.Proof.Terms
public import proofs.«01_k».proof.Proof.Gen.KernelIdeal.Value
public import Idealize.ShloMosaic.Lib.Pointwise
import Idealize.ShloMosaic.Lib.StableHlo.Run
import Idealize.ShloMosaic.Lib.Tactic
import Idealize.ShloMosaic.Lib.Quiescent

@[expose] public section

noncomputable section

namespace Cert.KernelIdeal.Terms

open Cert.KernelIdeal Cert.KernelIdeal.Gen Idealize.ShloMosaic Idealize.ShloMosaic.TcCoe Idealize.SL.Sem

variable {F : FTy → Type} [FloatOps F]

/-- The zero offset of two axes. -/
theorem hz : (![0, 0] : Fin 2 → Nat) = fun _ => 0 := funext fun a => by fin_cases a <;> rfl
/-- The zero offset of three axes. -/
theorem hz3 : (![0, 0, 0] : Fin 3 → Nat) = fun _ => 0 := funext fun a => by fin_cases a <;> rfl

/-- A scalar read of the box at offset `o`. -/
def diag (x0 : Vec F S3x3 .f32) (o : Fin 2 → Nat) (inb : ∀ a, o a + S1x1.size a ≤ S3x3.size a) : F .f32 :=
  View.ld x0 (Rect.unit o S1x1.size inb) (Shape.Idx.first (show 0 < S1x1.numel by decide))

/-- The scalar read at offset `(d, d)` is the box's diagonal entry `d`. -/
theorem diag_eq (x0 : Vec F S3x3 .f32) (d : Fin 3) (inb : ∀ a, ![d.val, d.val] a + S1x1.size a ≤ S3x3.size a) :
    diag x0 ![d.val, d.val] inb = x0 (ix2 d d) := by
  unfold diag
  refine congrArg x0 (funext fun a => Fin.ext ?_)
  fin_cases a <;> simp [Rect.emb, Rect.unit, Shape.Idx.first]

/-- The scalar read of the one output bias. -/
def biasRead (x1 : Vec F S1 .f32) : F .f32 :=
  View.ld x1 (Rect.unit ![0] S1.size inb_S1_S1_0) (Shape.Idx.first (show 0 < S1.numel by decide))

/-- The scalar read of the output bias is its one entry. -/
theorem biasRead_eq (x1 : Vec F S1 .f32) : biasRead x1 = x1 (ix1 0) := by
  unfold biasRead
  refine congrArg x1 (funext fun a => Fin.ext ?_)
  fin_cases a
  simp [Rect.emb, Rect.unit, Shape.Idx.first]

/-- The transposed coordinates the first point keeps. -/
def ctV (x3 : FVec F S512x3 .f32) : FVec F S3x512 .f32 := k0_pay2 x3
/-- The block-diagonal second-layer weights the first point keeps. -/
def wV (x6 : FVec F S32x64 .f32) : FVec F S512x256 .f32 :=
  k0_pay5 (k0_pay4 (k0_pay3 x6) (iota .tc S512x256 32 [0] iota_S512x256_d0_w32))
/-- The tiled second-layer bias the first point keeps. -/
def bV (x7 : FVec F S1x64 .f32) : FVec F S512x1 .f32 := k0_pay6 x7

/-- The finished result from the accumulated one: the output bias of every point added, then scaled. -/
def finishV (o : FVec F S1x1 .f32) (b : F .f32) : FVec F S1x1 .f32 := k0_pay1 o b

variable (c : Dev nD) (i : grid0.Coords) (arg1 : Memref sig .tc .smem S3x3 .f32) (harg1 : arg1.IsWhole) (arg2 : Memref
  sig .tc .smem S1 .f32) (harg2 : arg2.IsWhole) (arg3 : Memref sig .tc .vmem S256x3 .f32) (harg3 :
  arg3.IsWhole) (arg4 : Memref sig .tc .vmem S512x3 .f32) (harg4 : arg4.IsWhole) (arg5 : Memref sig .tc .vmem
  S32x1x1 .f32) (harg5 : arg5.IsWhole) (arg6 : Memref sig .tc .vmem S32x1x1 .f32) (harg6 : arg6.IsWhole) (arg7
  : Memref sig .tc .vmem S32x64 .f32) (harg7 : arg7.IsWhole) (arg8 : Memref sig .tc .vmem S1x64 .f32) (harg8 :
  arg8.IsWhole) (arg9 : Memref sig .tc .vmem S1x64 .f32) (harg9 : arg9.IsWhole) (arg10 : Memref sig .tc .vmem
  S1024x128 .f32) (harg10 : arg10.IsWhole) (arg11 : Memref sig .tc .vmem S1x128 .f32) (harg11 : arg11.IsWhole)
  (arg12 : Memref sig .tc .vmem S128x128 .f32) (harg12 : arg12.IsWhole) (arg13 : Memref sig .tc .vmem S1x128
  .f32) (harg13 : arg13.IsWhole) (arg14 : Memref sig .tc .vmem S128x1 .f32) (harg14 : arg14.IsWhole) (arg15 :
  Memref sig .tc .vmem S1x1 .f32) (harg15 : arg15.IsWhole) (arg16 : Memref sig .tc .vmem S3x512 .f32) (harg16
  : arg16.IsWhole) (arg17 : Memref sig .tc .vmem S512x256 .f32) (harg17 : arg17.IsWhole) (arg18 : Memref sig
  .tc .vmem S512x1 .f32) (harg18 : arg18.IsWhole)

variable (x0 : Vec F S3x3 .f32) (x1 : Vec F S1 .f32) (x2 : Vec F S256x3 .f32) (x3 : Vec F S512x3 .f32) (x4 : Vec F
  S32x1x1 .f32) (x5 : Vec F S32x1x1 .f32) (x6 : Vec F S32x64 .f32) (x7 : Vec F S1x64 .f32) (x8 : Vec F S1x64
  .f32) (x9 : Vec F S1024x128 .f32) (x10 : Vec F S1x128 .f32) (x11 : Vec F S128x128 .f32) (x12 : Vec F S1x128
  .f32) (x13 : Vec F S128x1 .f32)

/-- The first point keeps the transposed coordinates. -/
theorem sout0_A_0_eq (hc0 : cond0_0 i) (hc1 : cond0_1 i) (hc2 : ¬cond0_2 i) (hc3 : ¬cond0_3 i) :
    sout0_A_0 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18
      harg18 hc0 hc1 hc2 hc3 x0 x1 x2 x3 x4 x5 x6 x7 x8 x9 x10 x11 x12 x13
      = ctV x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 hc0 hc1 hc2 hc3 x0 x1 x2 x3 x4 x5 x6 x7 x8 x9 x10 x11 x12 x13)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread,
    View.ld_unit_zero (S := S256x3) hz, View.ld_unit_zero (S := S512x3) hz, View.ld_unit_zero (S := S32x1x1) hz3,
    View.ld_unit_zero (S := S32x64) hz, View.ld_unit_zero (S := S1x64) hz, View.ld_unit_zero (S := S1024x128)
    hz, View.ld_unit_zero (S := S1x128) hz, View.ld_unit_zero (S := S128x128) hz, View.ld_unit_zero (S :=
    S128x1) hz, View.ld_unit_zero (S := S3x512) hz, View.ld_unit_zero (S := S512x256) hz, View.ld_unit_zero (S
    := S512x1) hz, View.ld_unit_zero (S := S1x1) hz,
    View.readCov_unit_zero (S := S3x512) _ hz, View.readCov_unit_zero (S := S512x256) _ hz, View.readCov_unit_zero
    (S := S512x1) _ hz, View.readCov_unit_zero (S := S1x1) _ hz]
  rfl

/-- The first point keeps the block-diagonal weights. -/
theorem sout0_A_1_eq (hc0 : cond0_0 i) (hc1 : cond0_1 i) (hc2 : ¬cond0_2 i) (hc3 : ¬cond0_3 i) :
    sout0_A_1 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18
      harg18 hc0 hc1 hc2 hc3 x0 x1 x2 x3 x4 x5 x6 x7 x8 x9 x10 x11 x12 x13
      = wV x6 := by
  unfold sout0_A_1
  rw [View.read_writes_eq_canon _ _ _ (scover0_A_1 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 hc0 hc1 hc2 hc3 x0 x1 x2 x3 x4 x5 x6 x7 x8 x9 x10 x11 x12 x13)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread,
    View.ld_unit_zero (S := S256x3) hz, View.ld_unit_zero (S := S512x3) hz, View.ld_unit_zero (S := S32x1x1) hz3,
    View.ld_unit_zero (S := S32x64) hz, View.ld_unit_zero (S := S1x64) hz, View.ld_unit_zero (S := S1024x128)
    hz, View.ld_unit_zero (S := S1x128) hz, View.ld_unit_zero (S := S128x128) hz, View.ld_unit_zero (S :=
    S128x1) hz, View.ld_unit_zero (S := S3x512) hz, View.ld_unit_zero (S := S512x256) hz, View.ld_unit_zero (S
    := S512x1) hz, View.ld_unit_zero (S := S1x1) hz,
    View.readCov_unit_zero (S := S3x512) _ hz, View.readCov_unit_zero (S := S512x256) _ hz, View.readCov_unit_zero
    (S := S512x1) _ hz, View.readCov_unit_zero (S := S1x1) _ hz]
  rfl

/-- The first point keeps the tiled bias. -/
theorem sout0_A_2_eq (hc0 : cond0_0 i) (hc1 : cond0_1 i) (hc2 : ¬cond0_2 i) (hc3 : ¬cond0_3 i) :
    sout0_A_2 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18
      harg18 hc0 hc1 hc2 hc3 x0 x1 x2 x3 x4 x5 x6 x7 x8 x9 x10 x11 x12 x13
      = bV x7 := by
  unfold sout0_A_2
  rw [View.read_writes_eq_canon _ _ _ (scover0_A_2 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 hc0 hc1 hc2 hc3 x0 x1 x2 x3 x4 x5 x6 x7 x8 x9 x10 x11 x12 x13)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread,
    View.ld_unit_zero (S := S256x3) hz, View.ld_unit_zero (S := S512x3) hz, View.ld_unit_zero (S := S32x1x1) hz3,
    View.ld_unit_zero (S := S32x64) hz, View.ld_unit_zero (S := S1x64) hz, View.ld_unit_zero (S := S1024x128)
    hz, View.ld_unit_zero (S := S1x128) hz, View.ld_unit_zero (S := S128x128) hz, View.ld_unit_zero (S :=
    S128x1) hz, View.ld_unit_zero (S := S3x512) hz, View.ld_unit_zero (S := S512x256) hz, View.ld_unit_zero (S
    := S512x1) hz, View.ld_unit_zero (S := S1x1) hz,
    View.readCov_unit_zero (S := S3x512) _ hz, View.readCov_unit_zero (S := S512x256) _ hz, View.readCov_unit_zero
    (S := S512x1) _ hz, View.readCov_unit_zero (S := S1x1) _ hz]
  rfl

/-- The first point stores its own contribution. -/
theorem out0_A_14_eq (hc0 : cond0_0 i) (hc1 : cond0_1 i) (hc2 : ¬cond0_2 i) (hc3 : ¬cond0_3 i) :
    out0_A_14 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18
      harg18 hc0 hc1 hc2 hc3 x0 x1 x2 x3 x4 x5 x6 x7 x8 x9 x10 x11 x12 x13
      = blockV (BitVec.ofNat 32 (i 0).val) x2 (ctV x3) (diag x0 ![0, 0] inb_S3x3_S1x1_0_0)
        (diag x0 ![1, 1] inb_S3x3_S1x1_1_1) (diag x0 ![2, 2] inb_S3x3_S1x1_2_2) x4 x5 (wV x6) (bV x7)
        x8 x9 x10 x11 x12 x13 := by
  unfold out0_A_14
  rw [View.read_writes_eq_canon _ _ _ (cover0_A_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 hc0 hc1 hc2 hc3 x0 x1 x2 x3 x4 x5 x6 x7 x8 x9 x10 x11 x12 x13)]
  unfold kernelRun0_A
  dsimp only
  sl_unfold_words
  rw [View.canon_unit_zero hz]
  simp only [View.readAt_eq_ld, harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread,
    View.ld_unit_zero (S := S256x3) hz, View.ld_unit_zero (S := S512x3) hz, View.ld_unit_zero (S := S32x1x1) hz3,
    View.ld_unit_zero (S := S32x64) hz, View.ld_unit_zero (S := S1x64) hz, View.ld_unit_zero (S := S1024x128)
    hz, View.ld_unit_zero (S := S1x128) hz, View.ld_unit_zero (S := S128x128) hz, View.ld_unit_zero (S :=
    S128x1) hz, View.ld_unit_zero (S := S3x512) hz, View.ld_unit_zero (S := S512x256) hz, View.ld_unit_zero (S
    := S512x1) hz, View.ld_unit_zero (S := S1x1) hz,
    View.readCov_unit_zero (S := S3x512) _ hz, View.readCov_unit_zero (S := S512x256) _ hz, View.readCov_unit_zero
    (S := S512x1) _ hz, View.readCov_unit_zero (S := S1x1) _ hz]
  unfold ctV wV bV
  generalize k0_pay2 x3 = ct
  generalize k0_pay5 _ = W
  generalize k0_pay6 _ = B
  rfl

/-- The last point stores the finished sum of what the point before left and its own contribution. -/
theorem out0_B_14_eq (hc0 : ¬cond0_0 i) (hc1 : ¬cond0_1 i) (hc2 : cond0_2 i) (hc3 : cond0_3 i)
    (xo14 : Vec F S1x1 .f32) (xs0 : Vec F S3x512 .f32) (xs1 : Vec F S512x256 .f32) (xs2 : Vec F S512x1 .f32) :
    out0_B_14 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18
      harg18 hc0 hc1 hc2 hc3 x0 x1 x2 x3 x4 x5 x6 x7 x8 x9 x10 x11 x12 x13 xo14 xs0 xs1 xs2
      = finishV (addf xo14 (blockV (BitVec.ofNat 32 (i 0).val) x2 xs0 (diag x0 ![0, 0] inb_S3x3_S1x1_0_0)
        (diag x0 ![1, 1] inb_S3x3_S1x1_1_1) (diag x0 ![2, 2] inb_S3x3_S1x1_2_2) x4 x5 xs1 xs2
        x8 x9 x10 x11 x12 x13)) (biasRead x1) := by
  unfold out0_B_14
  rw [View.read_writes_eq_canon _ _ _ (cover0_B_14 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18
    harg18 hc0 hc1 hc2 hc3 x0 x1 x2 x3 x4 x5 x6 x7 x8 x9 x10 x11 x12 x13 xo14 xs0 xs1 xs2)]
  unfold kernelRun0_B
  dsimp only
  sl_unfold_words
  rw [View.canon_cons_unit_zero hz]
  simp only [View.readAt_eq_ld, harg1.read_unread, harg2.read_unread, harg3.read_unread, harg4.read_unread, harg5.read_unread,
    harg6.read_unread, harg7.read_unread, harg8.read_unread, harg9.read_unread, harg10.read_unread,
    harg11.read_unread, harg12.read_unread, harg13.read_unread, harg14.read_unread, harg15.read_unread,
    harg16.read_unread, harg17.read_unread, harg18.read_unread,
    View.ld_unit_zero (S := S256x3) hz, View.ld_unit_zero (S := S512x3) hz, View.ld_unit_zero (S := S32x1x1) hz3,
    View.ld_unit_zero (S := S32x64) hz, View.ld_unit_zero (S := S1x64) hz, View.ld_unit_zero (S := S1024x128)
    hz, View.ld_unit_zero (S := S1x128) hz, View.ld_unit_zero (S := S128x128) hz, View.ld_unit_zero (S :=
    S128x1) hz, View.ld_unit_zero (S := S3x512) hz, View.ld_unit_zero (S := S512x256) hz, View.ld_unit_zero (S
    := S512x1) hz, View.ld_unit_zero (S := S1x1) hz,
    View.readCov_unit_zero (S := S3x512) _ hz, View.readCov_unit_zero (S := S512x256) _ hz, View.readCov_unit_zero
    (S := S512x1) _ hz, View.readCov_unit_zero (S := S1x1) _ hz]
  unfold k0_pay235
  simp only [shapeCast_self]
  rfl

end Cert.KernelIdeal.Terms

end
-- ==== Proof.Formula.lean ====
/- The energy as a formula over the extended reals: the descriptor of each point, its fitting network
   and their sum. Both programs are shown to compute it. -/
module

public import Idealize.ShloMosaic.PureOps.Ideal

@[expose] public section

noncomputable section

namespace Cert.Energy

open Idealize.ShloMosaic

/-- A constant of the programs, by its bits. -/
def cst (b : BitVec 32) : EReal := Ideal.ofBits .f32 b

/-- The nearest integer, ties to even. -/
def nint (x : EReal) : EReal := Ideal.liftRound Ideal.roundHalfEven x

/-- The minimum-image displacement of the coordinate difference `d` in a box of edge `L`. -/
def disp (L d : EReal) : EReal := (d * Ideal.div 1 L - nint (d * Ideal.div 1 L)) * L

/-- The regularised distance of three displacements. -/
def dist (d0 d1 d2 : EReal) : EReal := Ideal.sqrt (cst 0x24E69595#32 + d0 * d0 + d1 * d1 + d2 * d2)

/-- The clipped switching variable of a distance. -/
def clip (r : EReal) : EReal := min 1 (max 0 (Ideal.div (r - cst 0x3F000000#32) (cst 0x40B00000#32)))

/-- The switching polynomial of its clipped variable. -/
def poly (u : EReal) : EReal :=
  u * u * u * (cst 0xC0C00000#32 * u * u + cst 0x41700000#32 * u - cst 0x41200000#32) + 1

/-- The switched inverse distance: zero from the cutoff on. -/
def switch (r : EReal) : EReal :=
  if r < cst 0x40C00000#32 then Ideal.div 1 (max r (cst 0x322BCC77#32)) * poly (clip r) else 0

/-- The scaled inverse distance. -/
def srn (s : EReal) : EReal := Ideal.div s (cst 0x3E99999A#32)

/-- The centred and scaled inverse distance. -/
def snc (s : EReal) : EReal := Ideal.div (s - cst 0x3DCCCCCD#32) (cst 0x3E99999A#32)

/-- One direction component of a neighbour. -/
def dir (s r d : EReal) : EReal := cst 0x3FDDB3D7#32 * srn s * (d * Ideal.div 1 (r + cst 0x24E69595#32))

/-- Unit `w` of the two-layer embedding of a neighbour's inverse distance. -/
def emb (W1 b1 : Fin 32 → EReal) (W2 : Fin 32 → Fin 64 → EReal) (b2 : Fin 64 → EReal) (s : EReal) (w : Fin 64) : EReal :=
  Ideal.tanh (∑ k, W2 k w * Ideal.tanh (W1 k * s + b1 k) + b2 w)

/-- A moment: the mean over all points of the embedding times one component. -/
def mom (G R : Fin 512 → EReal) : EReal := (∑ m, G m * R m) * cst 0x3C000000#32

/-- Feature `(a, w)`: the sum over the four components of the products of two moments. -/
def feat (T0 T1 T2 T3 : Fin 64 → EReal) (a : Fin 16) (w : Fin 64) : EReal :=
  T0 w * T0 ⟨a.val, by omega⟩ + T1 w * T1 ⟨a.val, by omega⟩ + T2 w * T2 ⟨a.val, by omega⟩ + T3 w * T3 ⟨a.val, by omega⟩

/-- A dense layer of 128 units. -/
def dense {K : ℕ} (X : Fin K → EReal) (W : Fin K → Fin 128 → EReal) (b : Fin 128 → EReal) (j : Fin 128) : EReal :=
  Ideal.tanh (∑ k, X k * W k j + b j)

/-- The weights and biases. -/
structure Net where
  /-- The weights of the first embedding layer. -/
  W1 : Fin 32 → EReal
  /-- The biases of the first embedding layer. -/
  b1 : Fin 32 → EReal
  /-- The weights of the second embedding layer. -/
  W2 : Fin 32 → Fin 64 → EReal
  /-- The biases of the second embedding layer. -/
  b2 : Fin 64 → EReal
  /-- The bias of the radial moments. -/
  tb : Fin 64 → EReal
  /-- The weights of the first fitting layer. -/
  Wf1 : Fin 1024 → Fin 128 → EReal
  /-- The biases of the first fitting layer. -/
  bf1 : Fin 128 → EReal
  /-- The weights of the second fitting layer. -/
  Wf2 : Fin 128 → Fin 128 → EReal
  /-- The biases of the second fitting layer. -/
  bf2 : Fin 128 → EReal

/-- The last fitting layer of one point, from its neighbours' inverse distances `s`, distances `r` and
    displacements. -/
def fit (P : Net) (s r d0 d1 d2 : Fin 512 → EReal) (j : Fin 128) : EReal :=
  let G : Fin 64 → Fin 512 → EReal := fun w m => emb P.W1 P.b1 P.W2 P.b2 (snc (s m)) w
  let X : Fin 1024 → EReal := fun k => feat
    (fun w => mom (G w) (fun m => srn (s m)) + P.tb w)
    (fun w => mom (G w) fun m => dir (s m) (r m) (d0 m))
    (fun w => mom (G w) fun m => dir (s m) (r m) (d1 m))
    (fun w => mom (G w) fun m => dir (s m) (r m) (d2 m)) ⟨k.val / 64, by omega⟩ ⟨k.val % 64, by omega⟩
  dense (dense X P.Wf1 P.bf1) P.Wf2 P.bf2 j

/-- The displacement of coordinate `d` from point `n` to point `m` at positions `x` in a box of edges `L`. -/
def pairDisp (x : Fin 512 → Fin 3 → EReal) (L : Fin 3 → EReal) (n : Fin 512) (d : Fin 3) (m : Fin 512) : EReal :=
  disp (L d) (x n d - x m d)

/-- The distance from point `n` to point `m`. -/
def pairDist (x : Fin 512 → Fin 3 → EReal) (L : Fin 3 → EReal) (n m : Fin 512) : EReal :=
  dist (pairDisp x L n 0 m) (pairDisp x L n 1 m) (pairDisp x L n 2 m)

/-- The switched inverse distance of a pair, a point with itself removed. -/
def pairInv (x : Fin 512 → Fin 3 → EReal) (L : Fin 3 → EReal) (n m : Fin 512) : EReal :=
  if n = m then 0 else switch (pairDist x L n m)

/-- The last fitting layer of point `n`. -/
def point (P : Net) (x : Fin 512 → Fin 3 → EReal) (L : Fin 3 → EReal) (n : Fin 512) (j : Fin 128) : EReal :=
  fit P (pairInv x L n) (pairDist x L n) (pairDisp x L n 0) (pairDisp x L n 1) (pairDisp x L n 2) j

end Cert.Energy

end
-- ==== Proof.Read.lean ====
/- The block's terms read at an index: each is the formula of `Formula` at the block's rows. -/
module

public import proofs.«01_k».proof.Proof.Found
public import proofs.«01_k».proof.Proof.Formula

@[expose] public section

set_option maxRecDepth 16384

noncomputable section

namespace Cert.KernelIdeal.Terms

open Cert.KernelIdeal Cert.KernelIdeal.Gen Idealize.ShloMosaic Cert.Energy

/-- The displacement of row `n` and point `m`. -/
theorem dispV_apply (cb : FVec Ideal S256x3 .f32) (ct : FVec Ideal S3x512 .f32) (d : Fin 3) (L : EReal)
    (n : Fin 256) (m : Fin 512) : dispV (F := Ideal) cb ct d L (ix2 n m) = disp L (cb (ix2 n d) - ct (ix2 d m)) := by
  pointwise [dispV]
  have h : diffV (F := Ideal) cb ct d (ix2 n m) = cb (ix2 n d) - ct (ix2 d m) := by pointwise [diffV]
  rw [h]; rfl

/-- The distance of row `n` and point `m`. -/
theorem distV_apply (d0 d1 d2 : FVec Ideal S256x512 .f32) (n : Fin 256) (m : Fin 512) :
    distV (F := Ideal) d0 d1 d2 (ix2 n m) = dist (d0 (ix2 n m)) (d1 (ix2 n m)) (d2 (ix2 n m)) := by
  pointwise [distV]
  rfl

/-- The switched inverse distance of row `n` and point `m`. -/
theorem switchV_apply (r : FVec Ideal S256x512 .f32) (n : Fin 256) (m : Fin 512) :
    switchV (F := Ideal) r (ix2 n m) = switch (r (ix2 n m)) := by
  pointwise [switchV, polyV, clipV]
  rfl

/-- The inverse distance of row `n` of block `i` and point `m`, a point with itself removed. -/
theorem srV_apply (r : FVec Ideal S256x512 .f32) (i : Fin 2) (n : Fin 256) (m : Fin 512) :
    srV (F := Ideal) (BitVec.ofNat 32 i.val) r (ix2 n m)
      = if (⟨i.val * 256 + n.val, by omega⟩ : Fin 512) = m then 0 else switch (r (ix2 n m)) := by
  rw [← switchV_apply]
  pointwise [srV, maskV]
  have h : IntOp.cmpi CmpIPredicate.eq (IntOp.addi (Scalar.muli (BitVec.ofNat 32 i.val) 256#32) (BitVec.ofNat 32 n.val))
      (BitVec.ofNat 32 m.val) = BitVec.ofBool (decide ((⟨i.val * 256 + n.val, by omega⟩ : Fin 512) = m)) := by
    have e : IntOp.addi (Scalar.muli (BitVec.ofNat 32 i.val) 256#32) (BitVec.ofNat 32 n.val)
        = BitVec.ofNat 32 (i.val * 256 + n.val) := by
      show BitVec.ofNat 32 i.val * BitVec.ofNat 32 256 + BitVec.ofNat 32 n.val = _
      rw [← BitVec.ofNat_mul, ← BitVec.ofNat_add]
    rw [e, WordCmp.cmpi_eq_ofNat (by omega) (by omega)]
    congr 1
    exact decide_eq_decide.mpr (by rw [Fin.ext_iff])
  rw [h]
  by_cases c : (⟨i.val * 256 + n.val, by omega⟩ : Fin 512) = m
  · rw [if_pos c, decide_eq_true c]; rfl
  · rw [if_neg c, decide_eq_false c]; rfl

/-- The scaled inverse distance at an index. -/
theorem srnV_apply (s : FVec Ideal S256x512 .f32) (n : Fin 256) (m : Fin 512) :
    srnV (F := Ideal) s (ix2 n m) = srn (s (ix2 n m)) := by
  pointwise [srnV]
  rfl

/-- The centred and scaled inverse distance at an index. -/
theorem sncV_apply (s : FVec Ideal S256x512 .f32) (n : Fin 256) (m : Fin 512) :
    sncV (F := Ideal) s (ix2 n m) = snc (s (ix2 n m)) := by
  pointwise [sncV]
  rfl

/-- A direction component at an index. -/
theorem dirV_apply (s r d : FVec Ideal S256x512 .f32) (n : Fin 256) (m : Fin 512) :
    dirV (F := Ideal) s r d (ix2 n m) = dir (s (ix2 n m)) (r (ix2 n m)) (d (ix2 n m)) := by
  pointwise [dirV, srnV]
  rfl

/-- The word quotient by 8 of a column index of the selector. -/
theorem word_div8 (k : Fin 256) :
    Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 k.val) 8#32) 0#32))
        (IntOp.subi (IntOp.divsi ArithUnit.vector (BitVec.ofNat 32 k.val) 8#32) 1#32)
        (IntOp.divsi ArithUnit.vector (BitVec.ofNat 32 k.val) 8#32)
      = BitVec.ofNat 32 (k.val / 8) := by
  revert k; decide +kernel

/-- The word quotient by 64 of a row index of the block-diagonal weights. -/
theorem word_div64 (j : Fin 512) :
    Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32)
      = BitVec.ofNat 32 (j.val / 64) := by
  revert j; decide +kernel

/-- The word remainder by 8 of a column index of the block-diagonal weights. -/
theorem word_mod8 (k : Fin 256) :
    Scalar.select
        (IntOp.andi
          (IntOp.xori
            (IntOp.cmpi CmpIPredicate.slt
              (IntOp.remsi ArithUnit.vector (BitVec.ofNat 32 k.val)
                (Scalar.select (Scalar.cmpi CmpIPredicate.eq 8#32 0#32) 1#32 8#32))
              0#32)
            (Scalar.cmpi CmpIPredicate.slt (Scalar.select (Scalar.cmpi CmpIPredicate.eq 8#32 0#32) 1#32 8#32) 0#32))
          (IntOp.cmpi CmpIPredicate.ne
            (IntOp.remsi ArithUnit.vector (BitVec.ofNat 32 k.val)
              (Scalar.select (Scalar.cmpi CmpIPredicate.eq 8#32 0#32) 1#32 8#32))
            0#32))
        (IntOp.addi
          (IntOp.remsi ArithUnit.vector (BitVec.ofNat 32 k.val)
            (Scalar.select (Scalar.cmpi CmpIPredicate.eq 8#32 0#32) 1#32 8#32))
          (Scalar.select (Scalar.cmpi CmpIPredicate.eq 8#32 0#32) 1#32 8#32))
        (IntOp.remsi ArithUnit.vector (BitVec.ofNat 32 k.val)
          (Scalar.select (Scalar.cmpi CmpIPredicate.eq 8#32 0#32) 1#32 8#32))
      = BitVec.ofNat 32 (k.val % 8) := by
  revert k; decide +kernel

/-- A choice by the equality word of two small naturals is the choice by their equality. -/
theorem select_eq_ofNat {α : Type} {a b : ℕ} (ha : a < 2 ^ 32) (hb : b < 2 ^ 32) (x y : α) :
    Scalar.select (IntOp.cmpi CmpIPredicate.eq (BitVec.ofNat 32 a) (BitVec.ofNat 32 b)) x y = if a = b then x else y := by
  rw [WordCmp.cmpi_eq_ofNat ha hb]
  by_cases c : a = b
  · rw [if_pos c, decide_eq_true c]; rfl
  · rw [if_neg c, decide_eq_false c]; rfl

/-- The tiled product with the selector: column `c` holds row `c / 8` of the weights. -/
theorem tile_apply (x6 : FVec Ideal S32x64 .f32) (j : Fin 512) (k : Fin 256) :
    k0_pay3 (F := Ideal) x6 (ix2 j k) = x6 (ix2 ⟨k.val / 8, by omega⟩ ⟨j.val % 64, by omega⟩) := by
  pointwise [k0_pay3]
  rw [word_div8]
  rw [Finset.sum_eq_single (⟨k.val / 8, by omega⟩ : Fin 32)]
  · rw [select_eq_ofNat (by show k.val / 8 < 2 ^ 32; omega) (by omega), if_pos rfl]
  · intro b _ hb
    rw [select_eq_ofNat (by omega) (by omega), if_neg fun h => hb (Fin.ext h)]
  · intro h; exact absurd (Finset.mem_univ _) h

/-- The block-diagonal weights: row `j` and column `c` hold the weights where `j / 64 = c % 8`, else zero. -/
theorem wV_apply (x6 : FVec Ideal S32x64 .f32) (j : Fin 512) (k : Fin 256) :
    wV (F := Ideal) x6 (ix2 j k)
      = if j.val / 64 = k.val % 8 then x6 (ix2 ⟨k.val / 8, by omega⟩ ⟨j.val % 64, by omega⟩) else 0 := by
  rw [← tile_apply x6 j k]
  pointwise [wV, k0_pay5, k0_pay4]
  rw [word_div64, word_mod8, select_eq_ofNat (by omega) (by omega)]

/-- The tiled bias repeats the bias every 64 rows. -/
theorem bV_apply (x7 : FVec Ideal S1x64 .f32) (j : Fin 512) :
    bV (F := Ideal) x7 (ix2 j 0) = x7 (ix2 0 ⟨j.val % 64, by omega⟩) := by
  pointwise [bV, k0_pay6]

/-- The transposed coordinates. -/
theorem ctV_apply (x3 : FVec Ideal S512x3 .f32) (d : Fin 3) (m : Fin 512) :
    ctV (F := Ideal) x3 (ix2 d m) = x3 (ix2 m d) := by
  pointwise [ctV, k0_pay2]

/-- The finished result. -/
theorem finishV_apply (o : FVec Ideal S1x1 .f32) (b : EReal) :
    finishV (F := Ideal) o b (ix2 0 0) = o (ix2 0 0) + cst 0x44000000#32 * b := by
  pointwise [finishV, k0_pay1]
  rfl

end Cert.KernelIdeal.Terms

end
-- ==== Proof.Block.lean ====
/- One grid point's contribution as the formula: the sum over the block's rows of the last fitting
   layer, against the output weights. -/
module

public import proofs.«01_k».proof.Proof.Read

@[expose] public section

set_option maxRecDepth 16384

noncomputable section

namespace Cert.KernelIdeal.Terms

open Cert.KernelIdeal Cert.KernelIdeal.Gen Idealize.ShloMosaic Cert.Energy

/-- A sum over 256 columns is a sum over 32 units of sums over 8 rows of a group. -/
theorem sum_columns (f : Fin 256 → EReal) :
    ∑ c, f c = ∑ k : Fin 32, ∑ q : Fin 8, f ⟨8 * k.val + q.val, by omega⟩ := by
  rw [← Fintype.sum_prod_type', ← Fintype.sum_equiv (finProdFinEquiv (m := 32) (n := 8)) _ f fun p => rfl]
  refine Finset.sum_congr rfl fun p _ => congrArg f (Fin.ext ?_)
  show p.2.val + 8 * p.1.val = 8 * p.1.val + p.2.val
  omega

/-- The embedding of group `g` at a row, a unit and a point. -/
theorem embV_apply (sn : FVec Ideal S256x512 .f32) (w1 b1 : FVec Ideal S32x1x1 .f32) (x6 : FVec Ideal S32x64 .f32)
    (x7 : FVec Ideal S1x64 .f32) (g : Fin 32) (p : Fin 8) (w : Fin 64) (m : Fin 512) :
    embV (F := Ideal) sn w1 b1 (wV x6) (bV x7) g (ix3 p w m)
      = emb (fun k => w1 (ix3 k 0 0)) (fun k => b1 (ix3 k 0 0)) (fun k w => x6 (ix2 k w)) (fun w => x7 (ix2 0 w))
          (sn (ix2 ⟨8 * g.val + p.val, by omega⟩ m)) w := by
  pointwise [embV]
  rw [bV_apply, sum_columns]
  unfold emb
  have hw : (p.val * 64 + w.val) % 64 = w.val := by omega
  simp only [wV_apply, hw, Fin.eta]
  congr 2
  refine Finset.sum_congr rfl fun k _ => ?_
  rw [Finset.sum_eq_single p]
  · rw [if_pos (by show (p.val * 64 + w.val) / 64 = (8 * k.val + p.val) % 8; omega)]
    have hk : (⟨(8 * k.val + p.val) / 8, by omega⟩ : Fin 32) = k := Fin.ext (by show (8 * k.val + p.val) / 8 = k.val; omega)
    have hp : (8 * k.val + p.val) % 8 = p.val := by omega
    simp only [hk, hp]
  · intro q _ hq
    rw [if_neg (by
      show ¬ (p.val * 64 + w.val) / 64 = (8 * k.val + q.val) % 8
      intro h; exact hq (Fin.ext (by omega))), zero_mul]
  · intro h; exact absurd (Finset.mem_univ _) h

/-- The stacked moments at a row and a unit. -/
theorem stackV_apply (R sn : FVec Ideal S256x512 .f32) (w1 b1 : FVec Ideal S32x1x1 .f32) (x6 : FVec Ideal S32x64 .f32)
    (x7 : FVec Ideal S1x64 .f32) (n : Fin 256) (w : Fin 64) :
    stackV (F := Ideal) R sn w1 b1 (wV x6) (bV x7) (ix2 n w)
      = mom (fun m => emb (fun k => w1 (ix3 k 0 0)) (fun k => b1 (ix3 k 0 0)) (fun k w => x6 (ix2 k w))
          (fun w => x7 (ix2 0 w)) (sn (ix2 n m)) w) (fun m => R (ix2 n m)) := by
  have hn : (⟨8 * (⟨n.val / 8, by omega⟩ : Fin 32).val + (⟨n.val % 8, by omega⟩ : Fin 8).val, by omega⟩ : Fin 256) = n :=
    Fin.ext (by show 8 * (n.val / 8) + n.val % 8 = n.val; omega)
  unfold stackV
  refine (concatenate_ofFn_apply (t := S256x64) (s₁ := S8x64) (0 : Fin 2) _ _ rfl 8 rfl (ix2 n w) ⟨n.val / 8, by omega⟩ rfl
    (ix2 ⟨n.val % 8, by omega⟩ w) rfl ?_).trans ?_
  · intro b hb
    fin_cases b
    · exact absurd rfl hb
    · rfl
  · pointwise [momV]
    simp only [embV_apply]
    simp only [hn]
    rfl

/-- A feature block at a row and a unit. -/
theorem featV_apply (T0 T1 T2 T3 : FVec Ideal S256x64 .f32) (a : Fin 16) (n : Fin 256) (w : Fin 64) :
    featV (F := Ideal) T0 T1 T2 T3 a (ix2 n w)
      = feat (fun w => T0 (ix2 n w)) (fun w => T1 (ix2 n w)) (fun w => T2 (ix2 n w)) (fun w => T3 (ix2 n w)) a w := by
  pointwise [featV, colV]
  rfl

/-- The features at a row: unit `k % 64` of feature block `k / 64`. -/
theorem featsV_apply (T0 T1 T2 T3 : FVec Ideal S256x64 .f32) (n : Fin 256) (k : Fin 1024) :
    featsV (F := Ideal) T0 T1 T2 T3 (ix2 n k)
      = feat (fun w => T0 (ix2 n w)) (fun w => T1 (ix2 n w)) (fun w => T2 (ix2 n w)) (fun w => T3 (ix2 n w))
          ⟨k.val / 64, by omega⟩ ⟨k.val % 64, by omega⟩ := by
  rw [← featV_apply]
  unfold featsV
  refine concatenate_ofFn_apply (t := S256x1024) (s₁ := S256x64) (1 : Fin 2) _ _ rfl 64 rfl (ix2 n k) ⟨k.val / 64, by omega⟩ rfl
    (ix2 n ⟨k.val % 64, by omega⟩) rfl ?_
  intro b hb
  fin_cases b
  · rfl
  · exact absurd rfl hb

/-- The first dense layer of the fitting network at a row and a unit. -/
theorem fit1V_apply (X : FVec Ideal S256x1024 .f32) (W : FVec Ideal S1024x128 .f32) (b : FVec Ideal S1x128 .f32)
    (n : Fin 256) (j : Fin 128) : fit1V (F := Ideal) X W b (ix2 n j)
      = dense (fun k => X (ix2 n k)) (fun k j => W (ix2 k j)) (fun j => b (ix2 0 j)) j := by
  pointwise [fit1V]
  rfl

/-- The second dense layer of the fitting network at a row and a unit. -/
theorem fit2V_apply (X : FVec Ideal S256x128 .f32) (W : FVec Ideal S128x128 .f32) (b : FVec Ideal S1x128 .f32)
    (n : Fin 256) (j : Fin 128) : fit2V (F := Ideal) X W b (ix2 n j)
      = dense (fun k => X (ix2 n k)) (fun k j => W (ix2 k j)) (fun j => b (ix2 0 j)) j := by
  pointwise [fit2V]
  rfl

/-- The block's contribution from its last layer. -/
theorem headV_apply (X : FVec Ideal S256x128 .f32) (W : FVec Ideal S128x1 .f32) :
    headV (F := Ideal) X W (ix2 0 0) = ∑ j, (∑ n, X (ix2 n j)) * W (ix2 j 0) := by
  pointwise [headV]

/-- The weights and biases a grid point is given. -/
def netV (w1 b1 : FVec Ideal S32x1x1 .f32) (x6 : FVec Ideal S32x64 .f32) (x7 tb : FVec Ideal S1x64 .f32)
    (Wf1 : FVec Ideal S1024x128 .f32) (bf1 : FVec Ideal S1x128 .f32) (Wf2 : FVec Ideal S128x128 .f32)
    (bf2 : FVec Ideal S1x128 .f32) : Net where
  W1 k := w1 (ix3 k 0 0)
  b1 k := b1 (ix3 k 0 0)
  W2 k w := x6 (ix2 k w)
  b2 w := x7 (ix2 0 w)
  tb w := tb (ix2 0 w)
  Wf1 k j := Wf1 (ix2 k j)
  bf1 j := bf1 (ix2 0 j)
  Wf2 k j := Wf2 (ix2 k j)
  bf2 j := bf2 (ix2 0 j)

/-- The block's contribution from its inverse distances, distances and displacements. -/
theorem restV_apply (s r d0 d1 d2 : FVec Ideal S256x512 .f32) (w1 b1 : FVec Ideal S32x1x1 .f32)
    (x6 : FVec Ideal S32x64 .f32) (x7 tb : FVec Ideal S1x64 .f32)
    (Wf1 : FVec Ideal S1024x128 .f32) (bf1 : FVec Ideal S1x128 .f32) (Wf2 : FVec Ideal S128x128 .f32)
    (bf2 : FVec Ideal S1x128 .f32) (Wf3 : FVec Ideal S128x1 .f32) :
    restV (F := Ideal) s r d0 d1 d2 w1 b1 (wV x6) (bV x7) tb Wf1 bf1 Wf2 bf2 Wf3 (ix2 0 0)
      = ∑ j, (∑ n : Fin 256, fit (netV w1 b1 x6 x7 tb Wf1 bf1 Wf2 bf2) (fun m => s (ix2 n m)) (fun m => r (ix2 n m))
          (fun m => d0 (ix2 n m)) (fun m => d1 (ix2 n m)) (fun m => d2 (ix2 n m)) j) * Wf3 (ix2 j 0) := by
  unfold restV
  rw [headV_apply]
  refine Finset.sum_congr rfl fun j _ => congrArg (· * _) (Finset.sum_congr rfl fun n _ => ?_)
  rw [fit2V_apply]
  have hT : ∀ (T : FVec Ideal S256x64 .f32) (w : Fin 64), tnV (F := Ideal) T tb (ix2 n w) = T (ix2 n w) + tb (ix2 0 w) := by
    intro T w; pointwise [tnV]
  simp only [fit1V_apply, featsV_apply, hT, stackV_apply, srnV_apply, sncV_apply, dirV_apply]
  rfl

/-- Block `i`'s contribution from the coordinates of all points. -/
theorem blockV_apply (i : Fin 2) (cb : FVec Ideal S256x3 .f32) (x3 : FVec Ideal S512x3 .f32)
    (hcb : ∀ n d, cb (ix2 n d) = x3 (ix2 ⟨i.val * 256 + n.val, by omega⟩ d)) (L : Fin 3 → EReal)
    (w1 b1 : FVec Ideal S32x1x1 .f32) (x6 : FVec Ideal S32x64 .f32) (x7 tb : FVec Ideal S1x64 .f32)
    (Wf1 : FVec Ideal S1024x128 .f32) (bf1 : FVec Ideal S1x128 .f32) (Wf2 : FVec Ideal S128x128 .f32)
    (bf2 : FVec Ideal S1x128 .f32) (Wf3 : FVec Ideal S128x1 .f32) :
    blockV (F := Ideal) (BitVec.ofNat 32 i.val) cb (ctV x3) (L 0) (L 1) (L 2) w1 b1 (wV x6) (bV x7) tb Wf1 bf1 Wf2 bf2 Wf3
        (ix2 0 0)
      = ∑ j, (∑ n : Fin 256, point (netV w1 b1 x6 x7 tb Wf1 bf1 Wf2 bf2) (fun n d => x3 (ix2 n d)) L
          ⟨i.val * 256 + n.val, by omega⟩ j) * Wf3 (ix2 j 0) := by
  unfold blockV
  rw [restV_apply]
  refine Finset.sum_congr rfl fun j _ => congrArg (· * _) (Finset.sum_congr rfl fun n _ => ?_)
  simp only [srV_apply, distV_apply, dispV_apply, ctV_apply, hcb]
  rfl

end Cert.KernelIdeal.Terms

end
-- ==== Proof.Windows.lean ====
/- What each window of the kernel shows the body at a grid point, as entries of the launch's
   arguments: the coordinates' rows of the point's block, and every other operand whole. -/
module

public import proofs.«01_k».proof.Proof.Found
public import Idealize.ShloMosaic.Lib.Pipeline.ValueKit

@[expose] public section

noncomputable section

namespace Cert.KernelIdeal.Windows

open Cert.KernelIdeal Cert.KernelIdeal.Gen Idealize.ShloMosaic Idealize.ShloMosaic.TcCoe

variable (m : (ℓ : Loc nD τ sig) → Buf (Elt Ideal) ℓ) (c : Dev nD) (t : Fin cfg0.N)

/-- Window 0 shows its array from the origin at every point. -/
theorem idx0 : ∀ t : Fin cfg0.N, win0_0.index t 0 = 0 ∧ win0_0.index t 1 = 0 := by decide +kernel
/-- The box, as the body sees it. -/
theorem box_apply (a b : Fin 3) : (iblk m c 0 t : FVec Ideal S3x3 .f32) (ix2 a b) = m ((c : Thread nD τ).loc main_arg1) (ix2 a b) := by
  blk_ext! [iblk, V, idx0 t]

/-- Window 1 shows its array from the origin at every point. -/
theorem idx1 : ∀ t : Fin cfg0.N, win0_1.index t 0 = 0 := by decide +kernel
/-- The output bias, as the body sees them. -/
theorem bias_apply  : (iblk m c 1 t : FVec Ideal S1 .f32) (ix1 0) = m ((c : Thread nD τ).loc main_arg12) (ix1 0) := by
  blk_ext! [iblk, V, idx1 t]

/-- Window 3 shows its array from the origin at every point. -/
theorem idx3 : ∀ t : Fin cfg0.N, win0_3.index t 0 = 0 ∧ win0_3.index t 1 = 0 := by decide +kernel
/-- All coordinates, as the body sees them. -/
theorem coords_apply (n : Fin 512) (d : Fin 3) : (iblk m c 3 t : FVec Ideal S512x3 .f32) (ix2 n d) = m ((c : Thread nD τ).loc main_arg0) (ix2 n d) := by
  blk_ext! [iblk, V, idx3 t]

/-- Window 4 shows its array from the origin at every point. -/
theorem idx4 : ∀ t : Fin cfg0.N, win0_4.index t 0 = 0 ∧ win0_4.index t 1 = 0 ∧ win0_4.index t 2 = 0 := by decide +kernel
/-- The first embedding weights, as the body sees them. -/
theorem w1_apply (k : Fin 32) : (iblk m c 4 t : FVec Ideal S32x1x1 .f32) (ix3 k 0 0) = m ((c : Thread nD τ).loc main_arg2) (ix2 0 k) := by
  blk_ext! [iblk, V, idx4 t]

/-- Window 5 shows its array from the origin at every point. -/
theorem idx5 : ∀ t : Fin cfg0.N, win0_5.index t 0 = 0 ∧ win0_5.index t 1 = 0 ∧ win0_5.index t 2 = 0 := by decide +kernel
/-- The first embedding biases, as the body sees them. -/
theorem b1_apply (k : Fin 32) : (iblk m c 5 t : FVec Ideal S32x1x1 .f32) (ix3 k 0 0) = m ((c : Thread nD τ).loc main_arg3) (ix1 k) := by
  blk_ext! [iblk, V, idx5 t]

/-- Window 6 shows its array from the origin at every point. -/
theorem idx6 : ∀ t : Fin cfg0.N, win0_6.index t 0 = 0 ∧ win0_6.index t 1 = 0 := by decide +kernel
/-- The second embedding weights, as the body sees them. -/
theorem w2_apply (k : Fin 32) (w : Fin 64) : (iblk m c 6 t : FVec Ideal S32x64 .f32) (ix2 k w) = m ((c : Thread nD τ).loc main_arg4) (ix2 k w) := by
  blk_ext! [iblk, V, idx6 t]

/-- Window 7 shows its array from the origin at every point. -/
theorem idx7 : ∀ t : Fin cfg0.N, win0_7.index t 0 = 0 ∧ win0_7.index t 1 = 0 := by decide +kernel
/-- The second embedding biases, as the body sees them. -/
theorem b2_apply (w : Fin 64) : (iblk m c 7 t : FVec Ideal S1x64 .f32) (ix2 0 w) = m ((c : Thread nD τ).loc main_arg5) (ix1 w) := by
  blk_ext! [iblk, V, idx7 t]

/-- Window 8 shows its array from the origin at every point. -/
theorem idx8 : ∀ t : Fin cfg0.N, win0_8.index t 0 = 0 ∧ win0_8.index t 1 = 0 := by decide +kernel
/-- The moments' biases, as the body sees them. -/
theorem tb_apply (w : Fin 64) : (iblk m c 8 t : FVec Ideal S1x64 .f32) (ix2 0 w) = m ((c : Thread nD τ).loc main_arg6) (ix1 w) := by
  blk_ext! [iblk, V, idx8 t]

/-- Window 9 shows its array from the origin at every point. -/
theorem idx9 : ∀ t : Fin cfg0.N, win0_9.index t 0 = 0 ∧ win0_9.index t 1 = 0 := by decide +kernel
/-- The first fitting weights, as the body sees them. -/
theorem wf1_apply (k : Fin 1024) (j : Fin 128) : (iblk m c 9 t : FVec Ideal S1024x128 .f32) (ix2 k j) = m ((c : Thread nD τ).loc main_arg7) (ix2 k j) := by
  blk_ext! [iblk, V, idx9 t]

/-- Window 10 shows its array from the origin at every point. -/
theorem idx10 : ∀ t : Fin cfg0.N, win0_10.index t 0 = 0 ∧ win0_10.index t 1 = 0 := by decide +kernel
/-- The first fitting biases, as the body sees them. -/
theorem bf1_apply (j : Fin 128) : (iblk m c 10 t : FVec Ideal S1x128 .f32) (ix2 0 j) = m ((c : Thread nD τ).loc main_arg8) (ix1 j) := by
  blk_ext! [iblk, V, idx10 t]

/-- Window 11 shows its array from the origin at every point. -/
theorem idx11 : ∀ t : Fin cfg0.N, win0_11.index t 0 = 0 ∧ win0_11.index t 1 = 0 := by decide +kernel
/-- The second fitting weights, as the body sees them. -/
theorem wf2_apply (k : Fin 128) (j : Fin 128) : (iblk m c 11 t : FVec Ideal S128x128 .f32) (ix2 k j) = m ((c : Thread nD τ).loc main_arg9) (ix2 k j) := by
  blk_ext! [iblk, V, idx11 t]

/-- Window 12 shows its array from the origin at every point. -/
theorem idx12 : ∀ t : Fin cfg0.N, win0_12.index t 0 = 0 ∧ win0_12.index t 1 = 0 := by decide +kernel
/-- The second fitting biases, as the body sees them. -/
theorem bf2_apply (j : Fin 128) : (iblk m c 12 t : FVec Ideal S1x128 .f32) (ix2 0 j) = m ((c : Thread nD τ).loc main_arg10) (ix1 j) := by
  blk_ext! [iblk, V, idx12 t]

/-- Window 13 shows its array from the origin at every point. -/
theorem idx13 : ∀ t : Fin cfg0.N, win0_13.index t 0 = 0 ∧ win0_13.index t 1 = 0 := by decide +kernel
/-- The output weights, as the body sees them. -/
theorem wf3_apply (j : Fin 128) : (iblk m c 13 t : FVec Ideal S128x1 .f32) (ix2 j 0) = m ((c : Thread nD τ).loc main_arg11) (ix2 j 0) := by
  blk_ext! [iblk, V, idx13 t]

/-- Window 2 shows the block of 256 rows with the point's number. -/
theorem idx2 : ∀ t : Fin cfg0.N, win0_2.index t 0 = t.val ∧ win0_2.index t 1 = 0 := by decide +kernel
/-- The block's coordinates are those rows of all coordinates. -/
theorem rows_apply (n : Fin 256) (d : Fin 3) (h : t.val * 256 + n.val < 512) :
    (iblk m c 2 t : FVec Ideal S256x3 .f32) (ix2 n d)
      = m ((c : Thread nD τ).loc main_arg0) (ix2 ⟨t.val * 256 + n.val, h⟩ d) := by
  blk_ext! [iblk, V, idx2 t]

end Cert.KernelIdeal.Windows

end
-- ==== Proof.Total.lean ====
/- The kernel's result as the formula: the two points' contributions, summed over the rows of the two
   blocks against the output weights, and the bias of all points. -/
module

public import proofs.«01_k».proof.Proof.Block
public import proofs.«01_k».proof.Proof.Windows

@[expose] public section

noncomputable section

namespace Cert.KernelIdeal.Total

open Cert.KernelIdeal Cert.KernelIdeal.Gen Cert.KernelIdeal.Terms Cert.Energy
open Idealize.ShloMosaic Idealize.ShloMosaic.TcCoe

variable (m : (ℓ : Loc nD τ sig) → Buf (Elt Ideal) ℓ) (c : Dev nD)

/-- The weights and biases the launch is given. -/
def net : Net where
  W1 k := m ((c : Thread nD τ).loc main_arg2) (ix2 0 k)
  b1 k := m ((c : Thread nD τ).loc main_arg3) (ix1 k)
  W2 k w := m ((c : Thread nD τ).loc main_arg4) (ix2 k w)
  b2 w := m ((c : Thread nD τ).loc main_arg5) (ix1 w)
  tb w := m ((c : Thread nD τ).loc main_arg6) (ix1 w)
  Wf1 k j := m ((c : Thread nD τ).loc main_arg7) (ix2 k j)
  bf1 j := m ((c : Thread nD τ).loc main_arg8) (ix1 j)
  Wf2 k j := m ((c : Thread nD τ).loc main_arg9) (ix2 k j)
  bf2 j := m ((c : Thread nD τ).loc main_arg10) (ix1 j)

/-- The coordinates the launch is given. -/
def pos (n : Fin 512) (d : Fin 3) : EReal := m ((c : Thread nD τ).loc main_arg0) (ix2 n d)

/-- The box's edges, its diagonal. -/
def edges (d : Fin 3) : EReal := m ((c : Thread nD τ).loc main_arg1) (ix2 d d)

/-- The output weights. -/
def out (j : Fin 128) : EReal := m ((c : Thread nD τ).loc main_arg11) (ix2 j 0)

/-- Block `i`'s part of the result. -/
def part (i : Fin 2) : EReal :=
  ∑ j, (∑ n : Fin 256, point (net m c) (pos m c) (edges m c) ⟨i.val * 256 + n.val, by omega⟩ j) * out m c j

/-- The weights and biases as the body sees them at any point are the launch's. -/
theorem netV_iblk (t : Fin cfg0.N) :
    netV (iblk m c 4 t) (iblk m c 5 t) (iblk m c 6 t) (iblk m c 7 t) (iblk m c 8 t) (iblk m c 9 t) (iblk m c 10 t)
      (iblk m c 11 t) (iblk m c 12 t) = net m c := by
  unfold netV net
  congr 1 <;> (repeat' refine funext fun _ => ?_)
  · exact Windows.w1_apply m c t _
  · exact Windows.b1_apply m c t _
  · exact Windows.w2_apply m c t _ _
  · exact Windows.b2_apply m c t _
  · exact Windows.tb_apply m c t _
  · exact Windows.wf1_apply m c t _ _
  · exact Windows.bf1_apply m c t _
  · exact Windows.wf2_apply m c t _ _
  · exact Windows.bf2_apply m c t _

/-- A point's number as the body reads it is the point's place on the grid. -/
theorem coords_val : ∀ t : Fin cfg0.N, (grid0.coords t 0).val = t.val := by decide +kernel

/-- A point's contribution, over what the first point prepared. -/
theorem blockV_iblk (t s : Fin cfg0.N) (i : Fin 2) (hi : t.val = i.val) :
    blockV (F := Ideal) (BitVec.ofNat 32 (grid0.coords t 0).val) (iblk m c 2 t) (ctV (iblk m c 3 s))
        (diag (iblk m c 0 t) ![0, 0] inb_S3x3_S1x1_0_0) (diag (iblk m c 0 t) ![1, 1] inb_S3x3_S1x1_1_1)
        (diag (iblk m c 0 t) ![2, 2] inb_S3x3_S1x1_2_2) (iblk m c 4 t) (iblk m c 5 t) (wV (iblk m c 6 s)) (bV (iblk m c 7 s))
        (iblk m c 8 t) (iblk m c 9 t) (iblk m c 10 t) (iblk m c 11 t) (iblk m c 12 t) (iblk m c 13 t) (ix2 0 0)
      = part m c i := by
  have h6 : (iblk m c 6 s : FVec Ideal S32x64 .f32) = iblk m c 6 t := by
    funext j; obtain ⟨a, b, rfl⟩ : ∃ a b, j = ix2 a b := ⟨j 0, j 1, by funext d; fin_cases d <;> rfl⟩
    exact (Windows.w2_apply m c s a b).trans (Windows.w2_apply m c t a b).symm
  have h7 : (iblk m c 7 s : FVec Ideal S1x64 .f32) = iblk m c 7 t := by
    funext j; obtain ⟨a, b, rfl⟩ : ∃ a b, j = ix2 a b := ⟨j 0, j 1, by funext d; fin_cases d <;> rfl⟩
    obtain rfl : a = 0 := Subsingleton.elim _ _
    exact (Windows.b2_apply m c s b).trans (Windows.b2_apply m c t b).symm
  have e0 : diag (iblk m c 0 t : FVec Ideal S3x3 .f32) ![0, 0] inb_S3x3_S1x1_0_0 = edges m c 0 :=
    (diag_eq _ 0 _).trans (Windows.box_apply m c t 0 0)
  have e1 : diag (iblk m c 0 t : FVec Ideal S3x3 .f32) ![1, 1] inb_S3x3_S1x1_1_1 = edges m c 1 :=
    (diag_eq _ 1 _).trans (Windows.box_apply m c t 1 1)
  have e2 : diag (iblk m c 0 t : FVec Ideal S3x3 .f32) ![2, 2] inb_S3x3_S1x1_2_2 = edges m c 2 :=
    (diag_eq _ 2 _).trans (Windows.box_apply m c t 2 2)
  rw [coords_val, hi, h6, h7, e0, e1, e2]
  refine (blockV_apply i _ _ (fun n d => ?_) (edges m c) _ _ _ _ _ _ _ _ _ _).trans ?_
  · refine (Windows.rows_apply m c t n d (by omega)).trans ?_
    refine Eq.trans ?_ (Windows.coords_apply m c s _ d).symm
    congr 3; simp only [hi]
  · rw [netV_iblk]
    unfold part
    refine Finset.sum_congr rfl fun j _ => congrArg₂ (· * ·) (Finset.sum_congr rfl fun n _ => ?_) (Windows.wf3_apply m c t j)
    refine congrArg (fun x => point (net m c) x (edges m c) _ j) ?_
    funext n d
    exact Windows.coords_apply m c s n d

/-- The kernel's result: both blocks' parts and the bias of all points. -/
theorem result_apply (i : S1x1.Idx) :
    Value.G14 m c i = part m c 0 + part m c 1 + cst 0x44000000#32 * m ((c : Thread nD τ).loc main_arg12) (ix1 0) := by
  obtain rfl : i = ix2 0 0 := by
    funext d; fin_cases d <;> exact Subsingleton.elim (α := Fin 1) _ _
  have h0 : (0 : ℕ) < cfg0.N := lt_of_lt_of_eq (by decide) N_0.symm
  have h1 : (1 : ℕ) < cfg0.N := lt_of_lt_of_eq (by decide) N_0.symm
  rw [Value.G14_last, Pipeline.accAt_succ, Pipeline.accAt_zero]
  rw [Value.stAt0_B m c ⟨1, h1⟩ _ (by simp) (by simp) (by simp) (by simp)]
  rw [Value.stAt0_A m c ⟨0, h0⟩ _ (by simp) (by simp) (by simp) (by simp)]
  rw [out0_B_14_eq, out0_A_14_eq, sout0_A_0_eq, sout0_A_1_eq, sout0_A_2_eq]
  dsimp only
  rw [finishV_apply, biasRead_eq]
  refine congrArg₂ (· + ·) (congrArg₂ (· + ·) (blockV_iblk m c ⟨0, h0⟩ ⟨0, h0⟩ 0 rfl) (blockV_iblk m c ⟨1, h1⟩ ⟨0, h0⟩ 1 rfl))
    (congrArg (cst _ * ·) (Windows.bias_apply m c ⟨1, h1⟩))

end Cert.KernelIdeal.Total

end
-- ==== Proof.Refer.lean ====
/- The reference's pairs, read at an index: the box's inverse, the displacements, the distances and the
   switched inverse distances, over a box that is zero off its diagonal. -/
module

public import proofs.«01_k».proof.Proof.Gen.ReferenceIdeal.Read
public import proofs.«01_k».proof.Proof.Formula
public import Idealize.ShloMosaic.Lib.Pointwise
import Idealize.ShloMosaic.Lib.WordCmp

@[expose] public section

set_option maxRecDepth 16384

noncomputable section

namespace Cert.ReferenceIdeal.Stage

open Cert.ReferenceIdeal Cert.ReferenceIdeal.Gen Cert.ReferenceIdeal.Read Idealize.ShloMosaic Cert.Energy

variable (x0 : FVec Ideal S512x3 .f32) (x1 : FVec Ideal S3x3 .f32) (x2 : FVec Ideal S1x32 .f32) (x3 : FVec Ideal S32 .f32)
  (x4 : FVec Ideal S32x64 .f32) (x5 : FVec Ideal S64 .f32) (x6 : FVec Ideal S64 .f32) (x7 : FVec Ideal S1024x128 .f32)
  (x8 : FVec Ideal S128 .f32) (x9 : FVec Ideal S128x128 .f32) (x10 : FVec Ideal S128 .f32) (x11 : FVec Ideal S128x1 .f32)
  (x12 : FVec Ideal S1 .f32)

/-- The coordinate differences. -/
theorem diff_apply (n m : Fin 512) (d : Fin 3) :
    val_main_v4 (F := Ideal) x0 (ix3 n m d) = x0 (ix2 n d) - x0 (ix2 m d) := by
  pointwise [
    val_main_v4, val_main_v3, val_main_v2, val_main_v1, val_main_v0]

/-- The first row of the box's adjugate. -/
theorem row0_apply (k : Fin 3) :
    val_main_v42 (F := Ideal) x1 (ix1 k) = ![x1 (ix2 1 1) * x1 (ix2 2 2) - x1 (ix2 1 2) * x1 (ix2 2 1),
      -(x1 (ix2 0 1) * x1 (ix2 2 2) - x1 (ix2 0 2) * x1 (ix2 2 1)),
      x1 (ix2 0 1) * x1 (ix2 1 2) - x1 (ix2 0 2) * x1 (ix2 1 1)] k := by
  fin_cases k <;>
  pointwise [
    val_main_v42, val_main_v41, val_main_v40, val_main_v39, val_main_v38, val_main_v37, val_main_v36, val_main_v35,
    val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v6, val_main_v5]
  all_goals rfl

/-- The second row of the box's adjugate. -/
theorem row1_apply (k : Fin 3) :
    val_main_v81 (F := Ideal) x1 (ix1 k) = ![-(x1 (ix2 1 0) * x1 (ix2 2 2) - x1 (ix2 1 2) * x1 (ix2 2 0)),
      x1 (ix2 0 0) * x1 (ix2 2 2) - x1 (ix2 0 2) * x1 (ix2 2 0),
      -(x1 (ix2 0 0) * x1 (ix2 1 2) - x1 (ix2 0 2) * x1 (ix2 1 0))] k := by
  fin_cases k <;>
  pointwise [
    val_main_v81, val_main_v80, val_main_v79, val_main_v78, val_main_v77, val_main_v76, val_main_v75, val_main_v74,
    val_main_v73, val_main_v72, val_main_v71, val_main_v70, val_main_v69, val_main_v68, val_main_v67, val_main_v66,
    val_main_v65, val_main_v64, val_main_v63, val_main_v62, val_main_v61, val_main_v60, val_main_v59, val_main_v58,
    val_main_v57, val_main_v56, val_main_v55, val_main_v54, val_main_v53, val_main_v52, val_main_v51, val_main_v50,
    val_main_v49, val_main_v48, val_main_v47, val_main_v46, val_main_v45, val_main_v44, val_main_v43]
  all_goals rfl

/-- The third row of the box's adjugate. -/
theorem row2_apply (k : Fin 3) :
    val_main_v119 (F := Ideal) x1 (ix1 k) = ![x1 (ix2 1 0) * x1 (ix2 2 1) - x1 (ix2 1 1) * x1 (ix2 2 0),
      -(x1 (ix2 0 0) * x1 (ix2 2 1) - x1 (ix2 0 1) * x1 (ix2 2 0)),
      x1 (ix2 0 0) * x1 (ix2 1 1) - x1 (ix2 0 1) * x1 (ix2 1 0)] k := by
  fin_cases k <;>
  pointwise [
    val_main_v119, val_main_v118, val_main_v117, val_main_v116, val_main_v115, val_main_v114, val_main_v113,
    val_main_v112, val_main_v111, val_main_v110, val_main_v109, val_main_v108, val_main_v107, val_main_v106,
    val_main_v105, val_main_v104, val_main_v103, val_main_v102, val_main_v101, val_main_v100, val_main_v99,
    val_main_v98, val_main_v97, val_main_v96, val_main_v95, val_main_v94, val_main_v93, val_main_v92, val_main_v91,
    val_main_v90, val_main_v89, val_main_v88, val_main_v87, val_main_v86, val_main_v85, val_main_v84, val_main_v83,
    val_main_v82]
  all_goals rfl

/-- The box's adjugate, row by row. -/
theorem adj_apply (a b : Fin 3) :
    val_main_v123 (F := Ideal) x1 (ix2 a b)
      = ![val_main_v42 (F := Ideal) x1 (ix1 b), val_main_v81 (F := Ideal) x1 (ix1 b),
        val_main_v119 (F := Ideal) x1 (ix1 b)] a := by
  fin_cases a <;>
  pointwise [
    val_main_v123, val_main_v122, val_main_v121, val_main_v120]
  all_goals rfl

/-- The box's determinant, along its first row. -/
theorem det_apply :
    val_main_v140 (F := Ideal) x1 ix0 = x1 (ix2 0 0) * val_main_v123 (F := Ideal) x1 (ix2 0 0)
      + x1 (ix2 0 1) * val_main_v123 (F := Ideal) x1 (ix2 1 0) + x1 (ix2 0 2) * val_main_v123 (F := Ideal) x1 (ix2 2 0) := by
  pointwise [
    val_main_v140, val_main_v139, val_main_v138, val_main_v137, val_main_v136, val_main_v135, val_main_v134,
    val_main_v133, val_main_v132, val_main_v131, val_main_v130, val_main_v129, val_main_v128, val_main_v127,
    val_main_v126, val_main_v125, val_main_v124]

/-- The quotient of two reals, the divisor not zero. -/
theorem div_coe (a b : ℝ) (hb : b ≠ 0) : Ideal.div (a : EReal) (b : EReal) = ((a / b : ℝ) : EReal) := by
  have : (b : EReal) ≠ 0 := by exact_mod_cast hb
  rw [Ideal.div, if_neg this, div_eq_mul_inv, EReal.coe_mul, EReal.coe_inv]

/-- The box is zero off its diagonal, and finite and not zero on it. -/
structure Diagonal (L : Fin 3 → ℝ) : Prop where
  /-- Off the diagonal. -/
  off : ∀ a b, a ≠ b → x1 (ix2 a b) = 0
  /-- On the diagonal. -/
  on : ∀ a, x1 (ix2 a a) = (L a : EReal)
  /-- No edge is zero. -/
  ne : ∀ a, L a ≠ 0

variable {x1} {L : Fin 3 → ℝ} (h : Diagonal x1 L)
include h

/-- The box's inverse: the edges' inverses on the diagonal, zero elsewhere. -/
theorem inv_apply (a b : Fin 3) :
    val_main_v142 (F := Ideal) x1 (ix2 a b) = if a = b then Ideal.div 1 (x1 (ix2 a a)) else 0 := by
  pointwise [val_main_v142, val_main_v141]
  rw [det_apply]
  have o01 := h.off 0 1 (by decide)
  have o02 := h.off 0 2 (by decide)
  have o10 := h.off 1 0 (by decide)
  have o12 := h.off 1 2 (by decide)
  have o20 := h.off 2 0 (by decide)
  have o21 := h.off 2 1 (by decide)
  have n0 := h.ne 0
  have n1 := h.ne 1
  have n2 := h.ne 2
  have hd : L 0 * (L 1 * L 2) ≠ 0 := mul_ne_zero n0 (mul_ne_zero n1 n2)
  simp only [adj_apply, row0_apply, row1_apply, row2_apply]
  have z : Ideal.div 0 ((L 0 * (L 1 * L 2) : ℝ) : EReal) = 0 := by
    rw [← EReal.coe_zero, div_coe _ _ hd, zero_div]
  have q : ∀ (u : ℝ) (a : Fin 3), u / (L 0 * (L 1 * L 2)) = 1 / L a →
      Ideal.div (u : EReal) ((L 0 * (L 1 * L 2) : ℝ) : EReal) = Ideal.div 1 (L a : EReal) := by
    intro u a e
    rw [← EReal.coe_one, div_coe _ _ hd, div_coe _ _ (h.ne a), e]
  fin_cases a <;> fin_cases b <;>
    simp [o01, o02, o10, o12, o20, o21, h.on, ← EReal.coe_mul]
  all_goals first | exact z | exact q _ _ (by field_simp)

omit h in
/-- A sum against a diagonal matrix is the diagonal's term. -/
theorem sum_diagonal (f g : Fin 3 → EReal) (d : Fin 3) (hg : ∀ k, k ≠ d → g k = 0) : ∑ k, f k * g k = f d * g d :=
  Finset.sum_eq_single d (fun k _ hk => by rw [hg k hk, mul_zero]) (fun hd => absurd (Finset.mem_univ d) hd)

/-- The minimum-image displacements. -/
theorem disp_apply (n m : Fin 512) (d : Fin 3) :
    val_main_v146 (F := Ideal) x0 x1 (ix3 n m d) = disp (x1 (ix2 d d)) (x0 (ix2 n d) - x0 (ix2 m d)) := by
  have e : ∀ d, val_main_v143 (F := Ideal) x0 x1 (ix3 n m d) = (x0 (ix2 n d) - x0 (ix2 m d)) * Ideal.div 1 (x1 (ix2 d d)) := by
    intro d
    pointwise [val_main_v143]
    simp only [diff_apply]
    rw [sum_diagonal (d := d) _ _ (fun k hk => by rw [inv_apply h, if_neg hk]), inv_apply h, if_pos rfl]
  pointwise [val_main_v146]
  rw [sum_diagonal (d := d) _ _ (fun k hk => h.off k d hk)]
  pointwise [val_main_v145, val_main_v144]
  rw [e]
  rfl

omit h

/-- The displacements' distances. -/
theorem dist_apply (n m : Fin 512) :
    val_main_v151 (F := Ideal) x0 x1 (ix2 n m)
      = dist (val_main_v146 (F := Ideal) x0 x1 (ix3 n m 0)) (val_main_v146 (F := Ideal) x0 x1 (ix3 n m 1))
        (val_main_v146 (F := Ideal) x0 x1 (ix3 n m 2)) := by
  pointwise [
    val_main_v151, val_main_v150, val_main_v149, val_main_cst_0, val_main_v148, val_main_cst, val_main_v147]
  rw [Fin.sum_univ_three, add_comm, ← add_assoc, ← add_assoc]
  rfl

/-- The switched inverse distances, a point with itself removed. -/
theorem sr_apply (n m : Fin 512) :
    val_main_v183 (F := Ideal) x0 x1 (ix2 n m)
      = if n = m then 0 else switch (val_main_v151 (F := Ideal) x0 x1 (ix2 n m)) := by
  pointwise [
    val_main_v183, val_main_call3_v1, val_main_call3_v0, val_main_cst_13, val_main_v182, val_main_call2_v1,
    val_main_call2_v0, val_main_cst_12, val_main_v181, val_main_v180, val_main_v179, val_main_cst_11,
    val_main_v178, val_main_v177, val_main_cst_10, val_main_v176, val_main_v175, val_main_cst_9, val_main_v174,
    val_main_v173, val_main_cst_8, val_main_v172, val_main_v171, val_main_v170, val_main_cst_7, val_main_v169,
    val_main_v168, val_main_v167, val_main_cst_6, val_main_v166, val_main_v165, val_main_v164, val_main_cst_5,
    val_main_v163, val_main_v162, val_main_v161, val_main_call1_v4, val_main_call1_v3, val_main_call1_v2,
    val_main_call1_v1, val_main_call1_v0, val_main_cst_4, val_main_cst_3, val_main_v160, val_main_v159,
    val_main_cst_2, val_main_v158, val_main_v157, val_main_cst_1, val_main_v156, val_main_v155, val_main_v154,
    val_main_c, val_main_v153, val_main_v152]
  dsimp only [id]
  pointwise []
  have hw : IntOp.cmpi CmpIPredicate.eq (IntOp.addi (BitVec.ofNat 32 n.val) 0#32) (BitVec.ofNat 32 m.val)
      = BitVec.ofBool (decide (n = m)) := by
    have e : IntOp.addi (BitVec.ofNat 32 n.val) 0#32 = BitVec.ofNat 32 n.val := BitVec.add_zero _
    rw [e, WordCmp.cmpi_eq_ofNat (by omega) (by omega)]
    congr 1
    exact decide_eq_decide.mpr (by rw [Fin.ext_iff])
  rw [hw]
  by_cases c : n = m
  · rw [if_pos c, decide_eq_true c]; rfl
  · rw [if_neg c, decide_eq_false c]; rfl

end Cert.ReferenceIdeal.Stage

end
-- ==== Proof.ReferNet.lean ====
/- The reference's descriptor and fitting network, read at an index, from the displacements, the distances
   and the switched inverse distances of `Refer`. -/
module

public import proofs.«01_k».proof.Proof.Refer
import Idealize.ShloMosaic.Lib.IdealHost

@[expose] public section

set_option maxRecDepth 16384

noncomputable section

namespace Cert.ReferenceIdeal.Stage

open Cert.ReferenceIdeal Cert.ReferenceIdeal.Gen Cert.ReferenceIdeal.Read Idealize.ShloMosaic Cert.Energy

variable (x0 : FVec Ideal S512x3 .f32) (x1 : FVec Ideal S3x3 .f32) (x2 : FVec Ideal S1x32 .f32) (x3 : FVec Ideal S32 .f32)
  (x4 : FVec Ideal S32x64 .f32) (x5 : FVec Ideal S64 .f32) (x6 : FVec Ideal S64 .f32) (x7 : FVec Ideal S1024x128 .f32)
  (x8 : FVec Ideal S128 .f32) (x9 : FVec Ideal S128x128 .f32) (x10 : FVec Ideal S128 .f32) (x11 : FVec Ideal S128x1 .f32)
  (x12 : FVec Ideal S1 .f32)

/-- The regularisation is positive. -/
theorem eps_pos : 0 < cst 0x24E69595#32 := by
  unfold cst
  simp [Ideal.ofBits, Ideal.ieee, -EReal.coe_mul]

/-- The number of neighbours the moments are divided by. -/
theorem count_eq : Ideal.ofBits .f32 0x43000000#32 = ((128 : ℝ) : EReal) := by
  simp [Ideal.ofBits, Ideal.ieee, -EReal.coe_mul]
  norm_num

/-- The factor that division is. -/
theorem mean_eq : cst 0x3C000000#32 = ((1 / 128 : ℝ) : EReal) := by
  unfold cst
  simp [Ideal.ofBits, Ideal.ieee, -EReal.coe_mul]
  norm_num

/-- A square is not negative. -/
theorem sq_nonneg (x : EReal) : 0 ≤ x * x := by
  induction x with
  | bot => simp
  | top => simp
  | coe r => rw [← EReal.coe_mul]; exact_mod_cast mul_self_nonneg r

/-- A square root of a number that is not negative is not negative. -/
theorem sqrt_nonneg (x : EReal) (hx : 0 ≤ x) : 0 ≤ Ideal.sqrt x := by
  induction x with
  | bot => simp at hx
  | top => simp
  | coe r =>
    have : ¬r < 0 := not_lt.mpr (by exact_mod_cast hx)
    rw [Ideal.sqrt_coe, if_neg this]
    exact_mod_cast Real.sqrt_nonneg r

/-- A distance is not negative. -/
theorem dist_nonneg (d0 d1 d2 : EReal) : 0 ≤ dist d0 d1 d2 :=
  sqrt_nonneg _ (add_nonneg (add_nonneg (add_nonneg eps_pos.le (sq_nonneg _)) (sq_nonneg _)) (sq_nonneg _))

/-- Division by a number other than zero is multiplication by its inverse. -/
theorem div_eq_mul (x y : EReal) (hy : y ≠ 0) : Ideal.div x y = x * Ideal.div 1 y := by
  rw [Ideal.div, Ideal.div, if_neg hy, if_neg hy, one_mul]

/-- The scaled inverse distances. -/
theorem srn_apply (n m : Fin 512) :
    val_main_v185 (F := Ideal) x0 x1 (ix2 n m) = srn (val_main_v183 (F := Ideal) x0 x1 (ix2 n m)) := by
  pointwise [
    val_main_v185, val_main_v184, val_main_cst_14]
  rfl

/-- The centred and scaled inverse distances. -/
theorem snc_apply (n m : Fin 512) :
    val_main_v189 (F := Ideal) x0 x1 (ix2 n m) = snc (val_main_v183 (F := Ideal) x0 x1 (ix2 n m)) := by
  pointwise [
    val_main_v189, val_main_v188, val_main_cst_16, val_main_v187, val_main_v186, val_main_cst_15]
  rfl

/-- The direction components. -/
theorem dir_apply (n m : Fin 512) (d : Fin 3) :
    val_main_v199 (F := Ideal) x0 x1 (ix3 n m d)
      = dir (val_main_v183 (F := Ideal) x0 x1 (ix2 n m)) (val_main_v151 (F := Ideal) x0 x1 (ix2 n m))
        (val_main_v146 (F := Ideal) x0 x1 (ix3 n m d)) := by
  pointwise [
    val_main_v199, val_main_v198, val_main_v197, val_main_v196, val_main_cst_18, val_main_v195, val_main_v194,
    val_main_v193, val_main_v192, val_main_v191, val_main_cst_17, val_main_v190]
  rw [srn_apply]
  have h : val_main_v151 (F := Ideal) x0 x1 (ix2 n m) + cst 0x24E69595#32 ≠ 0 := by
    rw [dist_apply]
    exact (lt_of_lt_of_le eps_pos (le_add_of_nonneg_left (dist_nonneg _ _ _))).ne'
  exact congrArg (_ * ·) (div_eq_mul _ _ h)

/-- The four components: the scaled inverse distance, then the direction. -/
theorem comp_apply (n m : Fin 512) (a : Fin 4) :
    val_main_v201 (F := Ideal) x0 x1 (ix3 n m a)
      = ![val_main_v185 (F := Ideal) x0 x1 (ix2 n m), val_main_v199 (F := Ideal) x0 x1 (ix3 n m 0),
        val_main_v199 (F := Ideal) x0 x1 (ix3 n m 1), val_main_v199 (F := Ideal) x0 x1 (ix3 n m 2)] a := by
  fin_cases a <;>
  pointwise [
    val_main_v201, val_main_v200]
  all_goals rfl

/-- The embedding of a neighbour. -/
theorem emb_apply (n m : Fin 512) (w : Fin 64) :
    val_main_v212 (F := Ideal) x0 x1 x2 x3 x4 x5 (ix3 n m w)
      = emb (fun k => x2 (ix2 0 k)) (fun k => x3 (ix1 k)) (fun k w => x4 (ix2 k w)) (fun w => x5 (ix1 w))
        (snc (val_main_v183 (F := Ideal) x0 x1 (ix2 n m))) w := by
  pointwise [
    val_main_v212, val_main_v211, val_main_v210, val_main_v209, val_main_v208, val_main_v207, val_main_v206,
    val_main_v205, val_main_v204, val_main_v203, val_main_v202]
  rw [snc_apply]
  unfold emb
  refine congrArg Ideal.tanh (congrArg (· + _) (Finset.sum_congr rfl fun k _ => ?_))
  rw [mul_comm, Fin.sum_univ_one, mul_comm (snc _)]

/-- The moments. -/
theorem mom_apply (n : Fin 512) (a : Fin 4) (w : Fin 64) :
    val_main_v215 (F := Ideal) x0 x1 x2 x3 x4 x5 (ix3 n a w)
      = mom (fun m => val_main_v212 (F := Ideal) x0 x1 x2 x3 x4 x5 (ix3 n m w))
        (fun m => val_main_v201 (F := Ideal) x0 x1 (ix3 n m a)) := by
  pointwise [
    val_main_v215, val_main_v214, val_main_cst_19, val_main_v213]
  rw [count_eq, Ideal.div, if_neg (by exact_mod_cast (by norm_num : (128 : ℝ) ≠ 0)), ← EReal.coe_inv]
  unfold mom
  rw [mean_eq, one_div]
  exact congrArg (· * _) (Finset.sum_congr rfl fun m _ => mul_comm _ _)

/-- The radial moments, biased. -/
theorem radial_apply (n : Fin 512) (w : Fin 64) :
    val_main_v220 (F := Ideal) x0 x1 x2 x3 x4 x5 x6 (ix2 n w)
      = val_main_v215 (F := Ideal) x0 x1 x2 x3 x4 x5 (ix3 n 0 w) + x6 (ix1 w) := by
  pointwise [
    val_main_v220, val_main_v219, val_main_v218, val_main_v217, val_main_v216]

/-- A feature. -/
theorem feat_apply (n : Fin 512) (a : Fin 16) (w : Fin 64) :
    val_main_v235 (F := Ideal) x0 x1 x2 x3 x4 x5 x6 (ix3 n a w)
      = feat (fun w => val_main_v220 (F := Ideal) x0 x1 x2 x3 x4 x5 x6 (ix2 n w))
        (fun w => val_main_v215 (F := Ideal) x0 x1 x2 x3 x4 x5 (ix3 n 1 w))
        (fun w => val_main_v215 (F := Ideal) x0 x1 x2 x3 x4 x5 (ix3 n 2 w))
        (fun w => val_main_v215 (F := Ideal) x0 x1 x2 x3 x4 x5 (ix3 n 3 w)) a w := by
  pointwise [
    val_main_v235, val_main_v234, val_main_cst_20, val_main_v233, val_main_v232, val_main_v231, val_main_v230,
    val_main_v229, val_main_v228, val_main_v227, val_main_v226, val_main_v225, val_main_v224, val_main_v223,
    val_main_v222, val_main_v221]
  rw [Fin.sum_univ_three, ← add_assoc, ← add_assoc]
  rfl

/-- The features of a point in one row. -/
theorem feats_apply (n : Fin 512) (k : Fin 1024) :
    val_main_v236 (F := Ideal) x0 x1 x2 x3 x4 x5 x6 (ix2 n k)
      = val_main_v235 (F := Ideal) x0 x1 x2 x3 x4 x5 x6 (ix3 n ⟨k.val / 64, by omega⟩ ⟨k.val % 64, by omega⟩) := by
  pointwise [val_main_v236]

/-- The first fitting layer. -/
theorem fit1_apply (n : Fin 512) (j : Fin 128) :
    val_main_v241 (F := Ideal) x0 x1 x2 x3 x4 x5 x6 x7 x8 (ix2 n j)
      = dense (fun k => val_main_v236 (F := Ideal) x0 x1 x2 x3 x4 x5 x6 (ix2 n k)) (fun k j => x7 (ix2 k j))
        (fun j => x8 (ix1 j)) j := by
  pointwise [
    val_main_v241, val_main_v240, val_main_v239, val_main_v238, val_main_v237]
  rfl

/-- The last fitting layer. -/
theorem fit2_apply (n : Fin 512) (j : Fin 128) :
    val_main_v246 (F := Ideal) x0 x1 x2 x3 x4 x5 x6 x7 x8 x9 x10 (ix2 n j)
      = dense (fun k => val_main_v241 (F := Ideal) x0 x1 x2 x3 x4 x5 x6 x7 x8 (ix2 n k)) (fun k j => x9 (ix2 k j))
        (fun j => x10 (ix1 j)) j := by
  pointwise [
    val_main_v246, val_main_v245, val_main_v244, val_main_v243, val_main_v242]
  rfl

/-- The result: the output layer summed over all points. -/
theorem sum_apply (i : S1x1.Idx) :
    val_main_v256 (F := Ideal) x0 x1 x2 x3 x4 x5 x6 x7 x8 x9 x10 x11 x12 i
      = ∑ n, (∑ j, val_main_v246 (F := Ideal) x0 x1 x2 x3 x4 x5 x6 x7 x8 x9 x10 (ix2 n j) * x11 (ix2 j 0) + x12 (ix1 0)) := by
  obtain rfl : i = ix2 0 0 := by
    funext d; fin_cases d <;> exact Subsingleton.elim (α := Fin 1) _ _
  pointwise [
    val_main_v256, val_main_v255, val_main_cst_23, val_main_v254, val_main_cst_22, val_main_v253, val_main_v252,
    val_main_cst_21, val_main_v251, val_main_v250, val_main_v249, val_main_v248, val_main_v247]

end Cert.ReferenceIdeal.Stage

end
-- ==== Proof.Point.lean ====
/- The reference's result as the formula: the last fitting layer of each point, and their weighted sum. -/
module

public import proofs.«01_k».proof.Proof.ReferNet

@[expose] public section

noncomputable section

namespace Cert.ReferenceIdeal.Stage

open Cert.ReferenceIdeal Cert.ReferenceIdeal.Gen Cert.ReferenceIdeal.Read Cert.Energy Idealize.ShloMosaic

variable (x0 : FVec Ideal S512x3 .f32) {x1 : FVec Ideal S3x3 .f32} (x2 : FVec Ideal S1x32 .f32) (x3 : FVec Ideal S32 .f32)
  (x4 : FVec Ideal S32x64 .f32) (x5 : FVec Ideal S64 .f32) (x6 : FVec Ideal S64 .f32) (x7 : FVec Ideal S1024x128 .f32)
  (x8 : FVec Ideal S128 .f32) (x9 : FVec Ideal S128x128 .f32) (x10 : FVec Ideal S128 .f32) (x11 : FVec Ideal S128x1 .f32)
  (x12 : FVec Ideal S1 .f32) {L : Fin 3 → ℝ}

/-- The weights and biases of the reference's arguments. -/
def weights : Net where
  W1 k := x2 (ix2 0 k)
  b1 k := x3 (ix1 k)
  W2 k w := x4 (ix2 k w)
  b2 w := x5 (ix1 w)
  tb w := x6 (ix1 w)
  Wf1 k j := x7 (ix2 k j)
  bf1 j := x8 (ix1 j)
  Wf2 k j := x9 (ix2 k j)
  bf2 j := x10 (ix1 j)

/-- For a diagonal box the reference's last fitting layer is the formula's. -/
theorem point_apply (h : Diagonal x1 L) (n : Fin 512) (j : Fin 128) :
    val_main_v246 (F := Ideal) x0 x1 x2 x3 x4 x5 x6 x7 x8 x9 x10 (ix2 n j)
      = point (weights x2 x3 x4 x5 x6 x7 x8 x9 x10) (fun n d => x0 (ix2 n d)) (fun d => x1 (ix2 d d)) n j := by
  rw [fit2_apply]
  simp only [fit1_apply, feats_apply, feat_apply, radial_apply, mom_apply, comp_apply, emb_apply, dir_apply,
    srn_apply, sr_apply, dist_apply, disp_apply x0 h]
  rfl

/-- For a diagonal box the reference's result is the sum over the points of the weighted layer and the bias. -/
theorem energy_apply (h : Diagonal x1 L) (i : S1x1.Idx) :
    val_main_v256 (F := Ideal) x0 x1 x2 x3 x4 x5 x6 x7 x8 x9 x10 x11 x12 i
      = ∑ n, (∑ j, point (weights x2 x3 x4 x5 x6 x7 x8 x9 x10) (fun n d => x0 (ix2 n d)) (fun d => x1 (ix2 d d)) n j
          * x11 (ix2 j 0) + x12 (ix1 0)) := by
  rw [sum_apply]
  simp only [point_apply _ _ _ _ _ _ _ _ _ _ h]

end Cert.ReferenceIdeal.Stage

end
-- ==== Proof.Precond.lean ====
/- What the precondition says of the arguments: the box is zero off its diagonal and finite and not zero on
   it, and the output weights are finite. -/
module

public import proofs.«01_k».proof.Proof.Refer
public import proofs.«01_k».proof.Proof.Gen.Pre_diagonal_box
import Idealize.ShloMosaic.Lib.ReduceAll

@[expose] public section

noncomputable section

namespace Cert.Pre_diagonal_box.Meaning

open Cert.Pre_diagonal_box Cert.Pre_diagonal_box.Gen Idealize.ShloMosaic Cert.ReferenceIdeal.Stage

/-- Two bits whose conjunction is one are both one. -/
theorem and_one : ∀ a b : BitVec 1, IntOp.andi a b = 1#1 → a = 1#1 ∧ b = 1#1 := by decide

/-- A truth value's bit is one only if the value is true. -/
theorem ofBool_one (b : Bool) (h : BitVec.ofBool b = 1#1) : b = true := by
  cases b
  · exact absurd h (by decide)
  · rfl

/-- An extended real of magnitude below infinity is a real. -/
theorem real_of_abs (x : EReal) (h : max x (-x) < ⊤) : ∃ r : ℝ, x = (r : EReal) := by
  induction x with
  | bot => simp at h
  | top => simp at h
  | coe r => exact ⟨r, rfl⟩

/-- The bits of the infinity. -/
theorem inf_eq : Ideal.ofBits .f32 0x7F800000#32 = ⊤ := by
  simp [Ideal.ofBits, Ideal.ieee]

/-- The mask of the diagonal is one only on the diagonal. -/
theorem eq_of_mask (a b : Fin 3) (h : cmpi .eq (addi (iotaInDim S3x3 32 0)
    (broadcastInDim S3x3 ![] bcast_S_S3x3 (constantI S_ 32 0#32))) (iotaInDim S3x3 32 1) (ix2 a b) = 1#1) : a = b := by
  revert h
  pointwise []
  revert a b
  decide

/-- The mask of the diagonal is one on the diagonal. -/
theorem mask_self (a : Fin 3) : cmpi .eq (addi (iotaInDim S3x3 32 0)
    (broadcastInDim S3x3 ![] bcast_S_S3x3 (constantI S_ 32 0#32))) (iotaInDim S3x3 32 1) (ix2 a a) = 1#1 := by
  pointwise []
  revert a
  decide

variable (x0 : FVec Ideal S512x3 .f32) (x1 : FVec Ideal S3x3 .f32) (x2 : FVec Ideal S1x32 .f32) (x3 : FVec Ideal S32 .f32)
  (x4 : FVec Ideal S32x64 .f32) (x5 : FVec Ideal S64 .f32) (x6 : FVec Ideal S64 .f32) (x7 : FVec Ideal S1024x128 .f32)
  (x8 : FVec Ideal S128 .f32) (x9 : FVec Ideal S128x128 .f32) (x10 : FVec Ideal S128 .f32) (x11 : FVec Ideal S128x1 .f32)
  (x12 : FVec Ideal S1 .f32)

/-- Where the precondition holds, the box is diagonal and the output weights are reals. -/
theorem of_fn (e : fn (F := Ideal) x0 x1 x2 x3 x4 x5 x6 x7 x8 x9 x10 x11 x12 ix0 = 1#1) :
    (∃ L : Fin 3 → ℝ, Diagonal x1 L) ∧ ∀ j : Fin 128, ∃ w : ℝ, x11 (ix2 j 0) = (w : EReal) := by
  haveI : Subsingleton S_.Idx := ⟨fun a b => funext fun d => d.elim0⟩
  unfold fn fn_part1 at e
  dsimp only at e
  obtain ⟨hb, hw⟩ := and_one _ _ e
  have hb := Host.reduce_andi_all _ _ _ _ _ hb
  have hw := Host.reduce_andi_all _ _ _ _ _ hw
  have off : ∀ a b : Fin 3, a ≠ b → x1 (ix2 a b) = 0 := by
    intro a b hab
    have h := hb (ix2 a b)
    unfold fn_where at h
    replace h := (if_neg (fun q => hab (eq_of_mask a b q))).symm.trans h
    revert h
    pointwise []
    intro h
    have h := of_decide_eq_true (ofBool_one _ h)
    simpa [Ideal.ofBits, Ideal.ieee] using h
  have on : ∀ a : Fin 3, max (x1 (ix2 a a)) (-x1 (ix2 a a)) < ⊤ ∧ x1 (ix2 a a) ≠ 0 := by
    intro a
    have h := hb (ix2 a a)
    unfold fn_where at h
    replace h := (if_pos (mask_self a)).symm.trans h
    obtain ⟨h1, h2⟩ := and_one _ _ h
    revert h1 h2
    pointwise []
    intro h1 h2
    have h1 := of_decide_eq_true (ofBool_one _ h1)
    have h2 := of_decide_eq_true (ofBool_one _ h2)
    rw [inf_eq] at h1
    exact ⟨h1, by simpa [Ideal.ofBits, Ideal.ieee] using h2⟩
  have hw' : ∀ j : Fin 128, max (x11 (ix2 j 0)) (-x11 (ix2 j 0)) < ⊤ := by
    intro j
    have h := hw (ix2 j 0)
    revert h
    pointwise []
    intro h
    have h := of_decide_eq_true (ofBool_one _ h)
    rwa [inf_eq] at h
  choose L hL using fun a => real_of_abs _ (on a).1
  refine ⟨⟨L, off, hL, fun a h0 => (on a).2 ?_⟩, fun j => real_of_abs _ (hw' j)⟩
  rw [hL, h0, EReal.coe_zero]

end Cert.Pre_diagonal_box.Meaning

end
-- ==== Proof.Equal.lean ====
/- The equation: the parts of the two blocks and the bias of all points are the sum over the points. -/
module

public import proofs.«01_k».proof.Proof.Formula
public import Mathlib.Data.EReal.Operations
import Mathlib.Algebra.BigOperators.Fin

@[expose] public section

noncomputable section

namespace Cert.Energy

open Idealize.ShloMosaic

/-- A hyperbolic tangent is a real. -/
theorem tanh_real (x : EReal) : ∃ r : ℝ, Ideal.tanh x = (r : EReal) := by
  induction x with
  | bot => exact ⟨-1, by simp⟩
  | top => exact ⟨1, by simp⟩
  | coe r => exact ⟨Real.tanh r, rfl⟩

/-- A sum of reals is the real sum. -/
theorem sum_coe {ι : Type*} [Fintype ι] (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- The constant that the bias is multiplied by. -/
theorem points_eq : cst 0x44000000#32 = ((512 : ℕ) : EReal) := by
  unfold cst
  simp [Ideal.ofBits, Ideal.ieee, -EReal.coe_mul]
  norm_num
  norm_cast

/-- A block's part is the sum over its rows. -/
theorem part_eq {ι : Type*} [Fintype ι] (f : ι → Fin 128 → EReal) (w : Fin 128 → EReal)
    (hf : ∀ n j, ∃ r : ℝ, f n j = (r : EReal)) (hw : ∀ j, ∃ r : ℝ, w j = (r : EReal)) :
    ∑ j, (∑ n, f n j) * w j = ∑ n, ∑ j, f n j * w j := by
  choose g hg using hf
  choose v hv using hw
  rw [Finset.sum_comm]
  refine Finset.sum_congr rfl fun j _ => ?_
  simp only [hg, hv, ← EReal.coe_mul, sum_coe, Finset.sum_mul]

/-- The whole: two blocks of 256 rows, and the bias once for each of the 512 points. -/
theorem total_eq (f : Fin 512 → Fin 128 → EReal) (w : Fin 128 → EReal) (b : EReal)
    (hf : ∀ n j, ∃ r : ℝ, f n j = (r : EReal)) (hw : ∀ j, ∃ r : ℝ, w j = (r : EReal)) :
    ∑ j, (∑ n : Fin 256, f ⟨0 * 256 + n.val, by omega⟩ j) * w j
      + ∑ j, (∑ n : Fin 256, f ⟨1 * 256 + n.val, by omega⟩ j) * w j + cst 0x44000000#32 * b
      = ∑ n, (∑ j, f n j * w j + b) := by
  rw [part_eq (fun n : Fin 256 => f ⟨0 * 256 + n.val, by omega⟩) w (fun _ _ => hf _ _) hw,
    part_eq (fun n : Fin 256 => f ⟨1 * 256 + n.val, by omega⟩) w (fun _ _ => hf _ _) hw,
    Finset.sum_add_distrib, points_eq, Finset.sum_const, Finset.card_univ, Fintype.card_fin, EReal.nsmul_eq_mul]
  refine congrArg (· + _) ?_
  refine Eq.trans ?_ (Fin.sum_univ_add (a := 256) (b := 256) fun n => ∑ j, f n j * w j).symm
  refine congrArg₂ (· + ·) (Finset.sum_congr rfl fun n _ => ?_) (Finset.sum_congr rfl fun n _ => ?_)
  · refine congrArg (fun k => ∑ j, f k j * w j) (Fin.ext ?_)
    simp
  · refine congrArg (fun k => ∑ j, f k j * w j) (Fin.ext ?_)
    simp [Nat.add_comm]

end Cert.Energy

end
-- ==== Proof.lean ====
/- The proof of the claim: the two programs run and leave their arguments and counters as they were, and for a
   diagonal box and finite output weights they end with the same energy. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_diagonal_box
public import proofs.«01_k».proof.Proof.Total
public import proofs.«01_k».proof.Proof.Point
public import proofs.«01_k».proof.Proof.Precond
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Energy

/-- Every weighted layer's value of every point is a real, as a hyperbolic tangent is one. -/
theorem point_real (P : Net) (x : Fin 512 → Fin 3 → EReal) (L : Fin 3 → EReal) (n : Fin 512) (j : Fin 128) :
    ∃ r : ℝ, point P x L n j = (r : EReal) := tanh_real _

/-- The reference runs, leaves its arguments unchanged and its counters at zero: it has no counter. -/
theorem reference_frame : Cert.quiescent_ReferenceIdeal :=
  fun m ρ _ => (θ_run Cert.ReferenceIdeal.defs _ _).mono
    (fun r h => ⟨fun c => (h c).2, sem_eq_zero_of_no_sems (by decide) _⟩) (Cert.ReferenceIdeal.Value.run m ρ)

section Value

variable (m : (ℓ : Loc Cert.KernelIdeal.nD Cert.KernelIdeal.τ Cert.KernelIdeal.sig) → Buf (Elt Ideal) ℓ)
  (c : Dev Cert.KernelIdeal.nD)

/-- Where the precondition holds, the kernel's result is what the reference computes of the same arguments. -/
theorem value_eq (h : Cert.Pre_KernelIdeal_diagonal_box m)
    {x0 : FVec Ideal Cert.ReferenceIdeal.S512x3 .f32}
    {x1 : FVec Ideal Cert.ReferenceIdeal.S3x3 .f32}
    {x2 : FVec Ideal Cert.ReferenceIdeal.S1x32 .f32}
    {x3 : FVec Ideal Cert.ReferenceIdeal.S32 .f32}
    {x4 : FVec Ideal Cert.ReferenceIdeal.S32x64 .f32}
    {x5 : FVec Ideal Cert.ReferenceIdeal.S64 .f32}
    {x6 : FVec Ideal Cert.ReferenceIdeal.S64 .f32}
    {x7 : FVec Ideal Cert.ReferenceIdeal.S1024x128 .f32}
    {x8 : FVec Ideal Cert.ReferenceIdeal.S128 .f32}
    {x9 : FVec Ideal Cert.ReferenceIdeal.S128x128 .f32}
    {x10 : FVec Ideal Cert.ReferenceIdeal.S128 .f32}
    {x11 : FVec Ideal Cert.ReferenceIdeal.S128x1 .f32}
    {x12 : FVec Ideal Cert.ReferenceIdeal.S1 .f32}
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10))
    (h11 : x11 = m ((c.tc : Thread Cert.KernelIdeal.nD Cert.KernelIdeal.τ).loc Cert.KernelIdeal.main_arg11))
    (h12 : x12 = m ((c.tc : Thread Cert.KernelIdeal.nD Cert.KernelIdeal.τ).loc Cert.KernelIdeal.main_arg12)) :
    Cert.ReferenceIdeal.Read.val_main_v256 (F := Ideal) x0 x1 x2 x3 x4 x5 x6 x7 x8 x9 x10 x11 x12
      = Cert.KernelIdeal.Value.G14 m c := by
  subst h0 h1 h2 h3 h4 h5 h6 h7 h8 h9 h10 h11 h12
  obtain ⟨⟨L, hL⟩, hw⟩ := Cert.Pre_diagonal_box.Meaning.of_fn _ _ _ _ _ _ _ _ _ _ _ _ _ (congrFun (h c) ix0)
  funext i
  rw [Cert.ReferenceIdeal.Stage.energy_apply _ _ _ _ _ _ _ _ _ _ _ _ hL i]
  refine Eq.trans ?_ (Cert.KernelIdeal.Total.result_apply m c i).symm
  exact (total_eq
    (point (Cert.KernelIdeal.Total.net m c) (Cert.KernelIdeal.Total.pos m c) (Cert.KernelIdeal.Total.edges m c))
    (Cert.KernelIdeal.Total.out m c) _ (point_real _ _ _) hw).symm

end Value

/-- The claim: the frames, the kernel over the extended reals, and the equal results. -/
theorem claim : Cert.Claim :=
  ⟨Cert.Kernel.Gen.facts, Cert.KernelIdeal.Gen.facts, Cert.ReferenceIdeal.Gen.facts, Cert.Pre_diagonal_box.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    fun m ρ m' ρ' hpre hargs => ⟨fun c => Cert.KernelIdeal.Value.G14 m c, Cert.KernelIdeal.Value.run m ρ,
      (θ_run Cert.ReferenceIdeal.defs _ _).mono (fun r h c => ⟨((h c).1.trans
        (Cert.ReferenceIdeal.Read.val_main_v256_eq _)).trans (by
          obtain ⟨h0, h1, h2, h3, h4, h5, h6, h7, h8, h9, h10, h11, h12⟩ := hargs c
          exact value_eq m c hpre h0 h1 h2 h3 h4 h5 h6 h7 h8 h9 h10 h11 h12), (h c).2⟩) (Cert.ReferenceIdeal.Value.run m' ρ')⟩⟩

end Cert.Proof

end
